-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x1x128 : Shape := ⟨3, ![10000, 1, 128]⟩
abbrev S10000x1x16x1x128 : Shape := ⟨5, ![10000, 1, 16, 1, 128]⟩
abbrev S4x1 : Shape := ⟨2, ![4, 1]⟩
abbrev S4 : Shape := ⟨1, ![4]⟩
abbrev S16x128 : Shape := ⟨2, ![16, 128]⟩
abbrev S16 : Shape := ⟨1, ![16]⟩
abbrev S32x4 : Shape := ⟨2, ![32, 4]⟩
abbrev S32 : Shape := ⟨1, ![32]⟩
abbrev S1x16 : Shape := ⟨2, ![1, 16]⟩
abbrev S1 : Shape := ⟨1, ![1]⟩
abbrev S32x32 : Shape := ⟨2, ![32, 32]⟩
abbrev S40x32 : Shape := ⟨2, ![40, 32]⟩
abbrev S40 : Shape := ⟨1, ![40]⟩
abbrev S_ : Shape := ⟨0, ![]⟩

class Facts : Prop where
  bcast_S_S4x1 : S_.BroadcastsInDim S4x1 (![] : Fin 0 → Fin S4x1.rank)
  reducesTo_S4x1_S_d0_1 : S4x1.ReducesTo [0, 1] S_
  h_S_ : 0 < S_.numel
  bcast_S_S4 : S_.BroadcastsInDim S4 (![] : Fin 0 → Fin S4.rank)
  reducesTo_S4_S_d0 : S4.ReducesTo [0] S_
  bcast_S_S16x128 : S_.BroadcastsInDim S16x128 (![] : Fin 0 → Fin S16x128.rank)
  reducesTo_S16x128_S_d0_1 : S16x128.ReducesTo [0, 1] S_
  bcast_S_S32x4 : S_.BroadcastsInDim S32x4 (![] : Fin 0 → Fin S32x4.rank)
  reducesTo_S32x4_S_d0_1 : S32x4.ReducesTo [0, 1] S_
  bcast_S_S32 : S_.BroadcastsInDim S32 (![] : Fin 0 → Fin S32.rank)
  reducesTo_S32_S_d0 : S32.ReducesTo [0] S_
  bcast_S_S1x16 : S_.BroadcastsInDim S1x16 (![] : Fin 0 → Fin S1x16.rank)
  reducesTo_S1x16_S_d0_1 : S1x16.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg8 : FVec F S32x4 .f32) (main_arg9 : FVec F S32 .f32) (main_arg10 : FVec F S1x16 .f32) (main_arg12 : FVec F S32 .f32) (main_v3 : IVec S_ 1) (main_v7 : IVec S_ 1) (main_v11 : IVec S_ 1) (main_v15 : IVec S_ 1) : IVec S_ 1 :=
  let main_v16 : FVec F S32x4 .f32 := Host.absf main_arg8
  let main_cst_6 : FVec F S_ .f32 := constant S_ .f32 0x7F800000#32
  let main_v17 : FVec F S32x4 .f32 := broadcastInDim S32x4 ![] bcast_S_S32x4 main_cst_6
  let main_v18 : IVec S32x4 1 := cmpf .olt main_v16 main_v17
  let main_c_7 : IVec S_ 1 := constantI S_ 1 1#1
  let main_v19 : IVec S_ 1 := (fun x v => Host.reduce IntOp.andi x v reducesTo_S32x4_S_d0_1 h_S_) main_v18 main_c_7
  let main_v20 : FVec F S32 .f32 := Host.absf main_arg9
  let main_cst_8 : FVec F S_ .f32 := constant S_ .f32 0x7F800000#32
  let main_v21 : FVec F S32 .f32 := broadcastInDim S32 ![] bcast_S_S32 main_cst_8
  let main_v22 : IVec S32 1 := cmpf .olt main_v20 main_v21
  let main_c_9 : IVec S_ 1 := constantI S_ 1 1#1
  let main_v23 : IVec S_ 1 := (fun x v => Host.reduce IntOp.andi x v reducesTo_S32_S_d0 h_S_) main_v22 main_c_9
  let main_v24 : FVec F S1x16 .f32 := Host.absf main_arg10
  let main_cst_10 : FVec F S_ .f32 := constant S_ .f32 0x7F800000#32
  let main_v25 : FVec F S1x16 .f32 := broadcastInDim S1x16 ![] bcast_S_S1x16 main_cst_10
  let main_v26 : IVec S1x16 1 := cmpf .olt main_v24 main_v25
  let main_c_11 : IVec S_ 1 := constantI S_ 1 1#1
  let main_v27 : IVec S_ 1 := (fun x v => Host.reduce IntOp.andi x v reducesTo_S1x16_S_d0_1 h_S_) main_v26 main_c_11
  let main_v28 : FVec F S32 .f32 := Host.absf main_arg12
  let main_cst_12 : FVec F S_ .f32 := constant S_ .f32 0x7F800000#32
  let main_v29 : FVec F S32 .f32 := broadcastInDim S32 ![] bcast_S_S32 main_cst_12
  let main_v30 : IVec S32 1 := cmpf .olt main_v28 main_v29
  let main_c_13 : IVec S_ 1 := constantI S_ 1 1#1
  let main_v31 : IVec S_ 1 := (fun x v => Host.reduce IntOp.andi x v reducesTo_S32_S_d0 h_S_) main_v30 main_c_13
  fn_part2 (F := F) main_v3 main_v7 main_v11 main_v15 main_v19 main_v23 main_v27 main_v31

def fn {F : FTy → Type} [FloatOps F] (main_arg0 : FVec F S10000x1x128 .f32) (main_arg1 : FVec F S10000x1x16x1x128 .f32) (main_arg2 : FVec F S4x1 .f32) (main_arg3 : FVec F S4 .f32) (main_arg4 : FVec F S16x128 .f32) (main_arg5 : FVec F S16 .f32) (main_arg6 : FVec F S4 .f32) (main_arg7 : FVec F S4 .f32) (main_arg8 : FVec F S32x4 .f32) (main_arg9 : FVec F S32 .f32) (main_arg10 : FVec F S1x16 .f32) (main_arg11 : FVec F S1 .f32) (main_arg12 : FVec F S32 .f32) (main_arg13 : FVec F S32 .f32) (main_arg14 : FVec F S32x32 .f32) (main_arg15 : FVec F S32 .f32) (main_arg16 : FVec F S40x32 .f32) (main_arg17 : FVec F S40 .f32) : IVec S_ 1 :=
  let main_v0 : FVec F S4x1 .f32 := Host.absf main_arg2
  let main_cst : FVec F S_ .f32 := constant S_ .f32 0x7F800000#32
  let main_v1 : FVec F S4x1 .f32 := broadcastInDim S4x1 ![] bcast_S_S4x1 main_cst
  let main_v2 : IVec S4x1 1 := cmpf .olt main_v0 main_v1
  let main_c : IVec S_ 1 := constantI S_ 1 1#1
  let main_v3 : IVec S_ 1 := (fun x v => Host.reduce IntOp.andi x v reducesTo_S4x1_S_d0_1 h_S_) main_v2 main_c
  let main_v4 : FVec F S4 .f32 := Host.absf main_arg3
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : FVec F S16x128 .f32 := Host.absf main_arg4
  let main_cst_2 : FVec F S_ .f32 := constant S_ .f32 0x7F800000#32
  let main_v9 : FVec F S16x128 .f32 := broadcastInDim S16x128 ![] bcast_S_S16x128 main_cst_2
  let main_v10 : IVec S16x128 1 := cmpf .olt main_v8 main_v9
  let main_c_3 : IVec S_ 1 := constantI S_ 1 1#1
  let main_v11 : IVec S_ 1 := (fun x v => Host.reduce IntOp.andi x v reducesTo_S16x128_S_d0_1 h_S_) main_v10 main_c_3
  let main_v12 : FVec F S4 .f32 := Host.absf main_arg6
  let main_cst_4 : FVec F S_ .f32 := constant S_ .f32 0x7F800000#32
  let main_v13 : FVec F S4 .f32 := broadcastInDim S4 ![] bcast_S_S4 main_cst_4
  let main_v14 : IVec S4 1 := cmpf .olt main_v12 main_v13
  let main_c_5 : IVec S_ 1 := constantI S_ 1 1#1
  let main_v15 : IVec S_ 1 := (fun x v => Host.reduce IntOp.andi x v reducesTo_S4_S_d0 h_S_) main_v14 main_c_5
  fn_part1 (F := F) main_arg8 main_arg9 main_arg10 main_arg12 main_v3 main_v7 main_v11 main_v15
-- ==== Kernel.lean ====
abbrev S10000x1x128 : Shape := ⟨3, ![10000, 1, 128]⟩
abbrev S10000x1x16x1x128 : Shape := ⟨5, ![10000, 1, 16, 1, 128]⟩
abbrev S4x1 : Shape := ⟨2, ![4, 1]⟩
abbrev S4 : Shape := ⟨1, ![4]⟩
abbrev S16x128 : Shape := ⟨2, ![16, 128]⟩
abbrev S16 : Shape := ⟨1, ![16]⟩
abbrev S32x4 : Shape := ⟨2, ![32, 4]⟩
abbrev S32 : Shape := ⟨1, ![32]⟩
abbrev S1x16 : Shape := ⟨2, ![1, 16]⟩
abbrev S1 : Shape := ⟨1, ![1]⟩
abbrev S32x32 : Shape := ⟨2, ![32, 32]⟩
abbrev S40x32 : Shape := ⟨2, ![40, 32]⟩
abbrev S40 : Shape := ⟨1, ![40]⟩
abbrev S10000x16x128 : Shape := ⟨3, ![10000, 16, 128]⟩
abbrev S10000x17x128 : Shape := ⟨3, ![10000, 17, 128]⟩
abbrev S_ : Shape := ⟨0, ![]⟩
abbrev S1x4 : Shape := ⟨2, ![1, 4]⟩
abbrev S4x16 : Shape := ⟨2, ![4, 16]⟩
abbrev S32x1 : Shape := ⟨2, ![32, 1]⟩
abbrev S4x32 : Shape := ⟨2, ![4, 32]⟩
abbrev S1x32 : Shape := ⟨2, ![1, 32]⟩
abbrev S128x16 : Shape := ⟨2, ![128, 16]⟩
abbrev S16x1 : Shape := ⟨2, ![16, 1]⟩
abbrev S32x40 : Shape := ⟨2, ![32, 40]⟩
abbrev S1x40 : Shape := ⟨2, ![1, 40]⟩
abbrev S10000x40 : Shape := ⟨2, ![10000, 40]⟩
abbrev S80x17x128 : Shape := ⟨3, ![80, 17, 128]⟩
abbrev S80x40 : Shape := ⟨2, ![80, 40]⟩
abbrev S80x1x128 : Shape := ⟨3, ![80, 1, 128]⟩
abbrev S80x128 : Shape := ⟨2, ![80, 128]⟩
abbrev S80x16x128 : Shape := ⟨3, ![80, 16, 128]⟩
abbrev S80x128x1 : Shape := ⟨3, ![80, 128, 1]⟩
abbrev S80x128x128 : Shape := ⟨3, ![80, 128, 128]⟩
abbrev S80x17x16 : Shape := ⟨3, ![80, 17, 16]⟩
abbrev S1x4x1 : Shape := ⟨3, ![1, 4, 1]⟩
abbrev S80x17x1x16 : Shape := ⟨4, ![80, 17, 1, 16]⟩
abbrev S1x1x4x1 : Shape := ⟨4, ![1, 1, 4, 1]⟩
abbrev S80x17x4x16 : Shape := ⟨4, ![80, 17, 4, 16]⟩
abbrev S1x1x4x16 : Shape := ⟨4, ![1, 1, 4, 16]⟩
abbrev S80x1x4x16 : Shape := ⟨4, ![80, 1, 4, 16]⟩
abbrev S80x4x16 : Shape := ⟨3, ![80, 4, 16]⟩
abbrev S80x16x4x16 : Shape := ⟨4, ![80, 16, 4, 16]⟩
abbrev S80x16x16 : Shape := ⟨3, ![80, 16, 16]⟩
abbrev S80x16 : Shape := ⟨2, ![80, 16]⟩
abbrev S80x1x16 : Shape := ⟨3, ![80, 1, 16]⟩
abbrev S80x4x1 : Shape := ⟨3, ![80, 4, 1]⟩
abbrev S80x4 : Shape := ⟨2, ![80, 4]⟩
abbrev S80x32 : Shape := ⟨2, ![80, 32]⟩

abbrev nBuf : Space → Nat
  | .hbm => 71
  | .vmem => 14
  | .smem => 0
  | _ => 0

abbrev bufTy : (tb : Table) → Fin (tcTables nBuf tb) → BufTy
  | .hbm, ⟨0, _⟩ => ⟨S10000x1x128, .f32⟩
  | .hbm, ⟨1, _⟩ => ⟨S10000x1x16x1x128, .f32⟩
  | .hbm, ⟨2, _⟩ => ⟨S4x1, .f32⟩
  | .hbm, ⟨3, _⟩ => ⟨S4, .f32⟩
  | .hbm, ⟨4, _⟩ => ⟨S16x128, .f32⟩
  | .hbm, ⟨5, _⟩ => ⟨S16, .f32⟩
  | .hbm, ⟨6, _⟩ => ⟨S4, .f32⟩
  | .hbm, ⟨7, _⟩ => ⟨S4, .f32⟩
  | .hbm, ⟨8, _⟩ => ⟨S32x4, .f32⟩
  | .hbm, ⟨9, _⟩ => ⟨S32, .f32⟩
  | .hbm, ⟨10, _⟩ => ⟨S1x16, .f32⟩
  | .hbm, ⟨11, _⟩ => ⟨S1, .f32⟩
  | .hbm, ⟨12, _⟩ => ⟨S32, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S40x32, .f32⟩
  | .hbm, ⟨17, _⟩ => ⟨S40, .f32⟩
  | .hbm, ⟨18, _⟩ => ⟨S10000x16x128, .f32⟩
  | .hbm, ⟨19, _⟩ => ⟨S10000x17x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S1x4, .f32⟩
  | .hbm, ⟨28, _⟩ => ⟨S_, .f32⟩
  | .hbm, ⟨29, _⟩ => ⟨S16, .f32⟩
  | .hbm, ⟨30, _⟩ => ⟨S4x1, .f32⟩
  | .hbm, ⟨31, _⟩ => ⟨S4x1, .f32⟩
  | .hbm, ⟨32, _⟩ => ⟨S1x16, .f32⟩
  | .hbm, ⟨33, _⟩ => ⟨S4x16, .f32⟩
  | .hbm, ⟨34, _⟩ => ⟨S4x16, .f32⟩
  | .hbm, ⟨35, _⟩ => ⟨S4x16, .f32⟩
  | .hbm, ⟨36, _⟩ => ⟨S1x16, .f32⟩
  | .hbm, ⟨37, _⟩ => ⟨S4x16, .f32⟩
  | .hbm, ⟨38, _⟩ => ⟨S4x16, .f32⟩
  | .hbm, ⟨39, _⟩ => ⟨S4x16, .f32⟩
  | .hbm, ⟨40, _⟩ => ⟨S4x16, .f32⟩
  | .hbm, ⟨41, _⟩ => ⟨S4x1, .f32⟩
  | .hbm, ⟨42, _⟩ => ⟨S4x16, .f32⟩
  | .hbm, ⟨43, _⟩ => ⟨S4x16, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S16, .f32⟩
  | .hbm, ⟨50, _⟩ => ⟨S_, .f32⟩
  | .hbm, ⟨51, _⟩ => ⟨S_, .f32⟩
  | .hbm, ⟨52, _⟩ => ⟨S32x1, .f32⟩
  | .hbm, ⟨53, _⟩ => ⟨S32x4, .f32⟩
  | .hbm, ⟨54, _⟩ => ⟨S32x4, .f32⟩
  | .hbm, ⟨55, _⟩ => ⟨S4x32, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S32, .f32⟩
  | .hbm, ⟨62, _⟩ => ⟨S32, .f32⟩
  | .hbm, ⟨63, _⟩ => ⟨S1x32, .f32⟩
  | .hbm, ⟨64, _⟩ => ⟨S128x16, .f32⟩
  | .hbm, ⟨65, _⟩ => ⟨S16x1, .f32⟩
  | .hbm, ⟨66, _⟩ => ⟨S32x32, .f32⟩
  | .hbm, ⟨67, _⟩ => ⟨S32x40, .f32⟩
  | .hbm, ⟨68, _⟩ => ⟨S1x32, .f32⟩
  | .hbm, ⟨69, _⟩ => ⟨S1x40, .f32⟩
  | .hbm, ⟨70, _⟩ => ⟨S10000x40, .f32⟩
  | .local _ .vmem, ⟨0, _⟩ => ⟨S80x17x128, .f32⟩
  | .local _ .vmem, ⟨1, _⟩ => ⟨S80x17x128, .f32⟩
  | .local _ .vmem, ⟨2, _⟩ => ⟨S128x16, .f32⟩
  | .local _ .vmem, ⟨3, _⟩ => ⟨S1x4, .f32⟩
  | .local _ .vmem, ⟨4, _⟩ => ⟨S4x16, .f32⟩
  | .local _ .vmem, ⟨5, _⟩ => ⟨S16x1, .f32⟩
  | .local _ .vmem, ⟨6, _⟩ => ⟨S4x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S32x40, .f32⟩
  | .local _ .vmem, ⟨11, _⟩ => ⟨S1x40, .f32⟩
  | .local _ .vmem, ⟨12, _⟩ => ⟨S80x40, .f32⟩
  | .local _ .vmem, ⟨13, _⟩ => ⟨S80x40, .f32⟩
  | _, _ => ⟨S10000x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_cst_0 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_cst_1 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_v27 : Ref sig .tc := ⟨.hbm, 48, rfl⟩
abbrev main_call0_v28 : Ref sig .tc := ⟨.hbm, 49, rfl⟩
abbrev main_call0_cst_2 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_v0 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x17x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x40 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S80x40 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S10000x1x128 : Shape := ⟨3, ![10000, 1, 128]⟩
abbrev S10000x1x16x1x128 : Shape := ⟨5, ![10000, 1, 16, 1, 128]⟩
abbrev S4x1 : Shape := ⟨2, ![4, 1]⟩
abbrev S4 : Shape := ⟨1, ![4]⟩
abbrev S16x128 : Shape := ⟨2, ![16, 128]⟩
abbrev S16 : Shape := ⟨1, ![16]⟩
abbrev S32x4 : Shape := ⟨2, ![32, 4]⟩
abbrev S32 : Shape := ⟨1, ![32]⟩
abbrev S1x16 : Shape := ⟨2, ![1, 16]⟩
abbrev S1 : Shape := ⟨1, ![1]⟩
abbrev S32x32 : Shape := ⟨2, ![32, 32]⟩
abbrev S40x32 : Shape := ⟨2, ![40, 32]⟩
abbrev S40 : Shape := ⟨1, ![40]⟩
abbrev S10000x16x1x128 : Shape := ⟨4, ![10000, 16, 1, 128]⟩
abbrev S_ : Shape := ⟨0, ![]⟩
abbrev S10000x128x128 : Shape := ⟨3, ![10000, 128, 128]⟩
abbrev S10000x128 : Shape := ⟨2, ![10000, 128]⟩
abbrev S10000x128x4 : Shape := ⟨3, ![10000, 128, 4]⟩
abbrev S10000x4x128 : Shape := ⟨3, ![10000, 4, 128]⟩
abbrev S1x4x1 : Shape := ⟨3, ![1, 4, 1]⟩
abbrev S128x16 : Shape := ⟨2, ![128, 16]⟩
abbrev S10000x4x16 : Shape := ⟨3, ![10000, 4, 16]⟩
abbrev S1x1x16 : Shape := ⟨3, ![1, 1, 16]⟩
abbrev S10000x16x128x4 : Shape := ⟨4, ![10000, 16, 128, 4]⟩
abbrev S10000x16x4x128 : Shape := ⟨4, ![10000, 16, 4, 128]⟩
abbrev S1x1x4x1 : Shape := ⟨4, ![1, 1, 4, 1]⟩
abbrev S10000x16x4x16 : Shape := ⟨4, ![10000, 16, 4, 16]⟩
abbrev S1x1x1x16 : Shape := ⟨4, ![1, 1, 1, 16]⟩
abbrev S10000x16x16 : Shape := ⟨3, ![10000, 16, 16]⟩
abbrev S10000x16 : Shape := ⟨2, ![10000, 16]⟩
abbrev S10000x1x16 : Shape := ⟨3, ![10000, 1, 16]⟩
abbrev S10000x16x32 : Shape := ⟨3, ![10000, 16, 32]⟩
abbrev S10000x32x16 : Shape := ⟨3, ![10000, 32, 16]⟩
abbrev S1x32x1 : Shape := ⟨3, ![1, 32, 1]⟩
abbrev S16x1 : Shape := ⟨2, ![16, 1]⟩
abbrev S10000x32x1 : Shape := ⟨3, ![10000, 32, 1]⟩
abbrev S1x1x1 : Shape := ⟨3, ![1, 1, 1]⟩
abbrev S10000x32 : Shape := ⟨2, ![10000, 32]⟩
abbrev S1x32 : Shape := ⟨2, ![1, 32]⟩
abbrev S32x40 : Shape := ⟨2, ![32, 40]⟩
abbrev S10000x40 : Shape := ⟨2, ![10000, 40]⟩
abbrev S1x40 : Shape := ⟨2, ![1, 40]⟩

abbrev nBuf : Space → Nat
  | .hbm => 160
  | .vmem => 0
  | .smem => 0
  | _ => 0

abbrev hbmTy0_0 (i : Nat) : BufTy := match i % 128 with
  | 0 => ⟨S10000x1x128, .f32⟩
  | 1 => ⟨S10000x1x16x1x128, .f32⟩
  | 2 => ⟨S4x1, .f32⟩
  | 3 => ⟨S4, .f32⟩
  | 4 => ⟨S16x128, .f32⟩
  | 5 => ⟨S16, .f32⟩
  | 6 => ⟨S4, .f32⟩
  | 7 => ⟨S4, .f32⟩
  | 8 => ⟨S32x4, .f32⟩
  | 9 => ⟨S32, .f32⟩
  | 10 => ⟨S1x16, .f32⟩
  | 11 => ⟨S1, .f32⟩
  | 12 => ⟨S32, .f32⟩
  | 13 => ⟨S32, .f32⟩
  | 14 => ⟨S32x32, .f32⟩
  | 15 => ⟨S32, .f32⟩
  | 16 => ⟨S40x32, .f32⟩
  | 17 => ⟨S40, .f32⟩
  | 18 => ⟨S10000x16x1x128, .f32⟩
  | 19 => ⟨S_, .f32⟩
  | 20 => ⟨S10000x1x128, .f32⟩
  | 21 => ⟨S10000x128x128, .f32⟩
  | 22 => ⟨S10000x128x128, .f32⟩
  | 23 => ⟨S10000x128x128, .f32⟩
  | 24 => ⟨S10000x128x128, .f32⟩
  | 25 => ⟨S10000x128x128, .f32⟩
  | 26 => ⟨S10000x128x128, .f32⟩
  | 27 => ⟨S10000x128x128, .f32⟩
  | 28 => ⟨S10000x128x128, .f32⟩
  | 29 => ⟨S_, .f32⟩
  | 30 => ⟨S10000x128, .f32⟩
  | 31 => ⟨S10000x1x128, .f32⟩
  | 32 => ⟨S_, .f32⟩
  | 33 => ⟨S10000x1x128, .f32⟩
  | 34 => ⟨S10000x1x128, .f32⟩
  | 35 => ⟨S10000x128x128, .f32⟩
  | 36 => ⟨S10000x128x128, .f32⟩
  | 37 => ⟨S10000x128x128, .i1⟩
  | 38 => ⟨S_, .f32⟩
  | 39 => ⟨S_, .f32⟩
  | 40 => ⟨S10000x128x128, .f32⟩
  | 41 => ⟨S10000x128x128, .f32⟩
  | 42 => ⟨S10000x1x128, .f32⟩
  | 43 => ⟨S10000x128x4, .f32⟩
  | 44 => ⟨S10000x4x128, .f32⟩
  | 45 => ⟨S1x4x1, .f32⟩
  | 46 => ⟨S10000x4x128, .f32⟩
  | 47 => ⟨S10000x4x128, .f32⟩
  | 48 => ⟨S128x16, .f32⟩
  | 49 => ⟨S10000x4x16, .f32⟩
  | 50 => ⟨S1x1x16, .f32⟩
  | 51 => ⟨S10000x4x16, .f32⟩
  | 52 => ⟨S10000x4x16, .f32⟩
  | 53 => ⟨S10000x16x1x128, .f32⟩
  | 54 => ⟨S10000x16x128x4, .f32⟩
  | 55 => ⟨S10000x16x4x128, .f32⟩
  | 56 => ⟨S1x1x4x1, .f32⟩
  | 57 => ⟨S10000x16x4x128, .f32⟩
  | 58 => ⟨S10000x16x4x128, .f32⟩
  | 59 => ⟨S128x16, .f32⟩
  | 60 => ⟨S10000x16x4x16, .f32⟩
  | 61 => ⟨S1x1x1x16, .f32⟩
  | 62 => ⟨S10000x16x4x16, .f32⟩
  | 63 => ⟨S10000x16x4x16, .f32⟩
  | 64 => ⟨S_, .f32⟩
  | 65 => ⟨S_, .f32⟩
  | 66 => ⟨S_, .f32⟩
  | 67 => ⟨S10000x4x16, .f32⟩
  | 68 => ⟨S10000x4x16, .f32⟩
  | 69 => ⟨S1x4x1, .f32⟩
  | 70 => ⟨S10000x4x16, .f32⟩
  | 71 => ⟨S10000x4x16, .f32⟩
  | 72 => ⟨S1x4x1, .f32⟩
  | 73 => ⟨S10000x4x16, .f32⟩
  | 74 => ⟨S10000x4x16, .f32⟩
  | 75 => ⟨S10000x4x16, .f32⟩
  | 76 => ⟨S_, .f32⟩
  | 77 => ⟨S10000x4x16, .f32⟩
  | 78 => ⟨S10000x4x16, .f32⟩
  | 79 => ⟨S10000x4x16, .f32⟩
  | 80 => ⟨S_, .f32⟩
  | 81 => ⟨S_, .f32⟩
  | 82 => ⟨S_, .f32⟩
  | 83 => ⟨S10000x16x4x16, .f32⟩
  | 84 => ⟨S10000x16x4x16, .f32⟩
  | 85 => ⟨S1x1x4x1, .f32⟩
  | 86 => ⟨S10000x16x4x16, .f32⟩
  | 87 => ⟨S10000x16x4x16, .f32⟩
  | 88 => ⟨S1x1x4x1, .f32⟩
  | 89 => ⟨S10000x16x4x16, .f32⟩
  | 90 => ⟨S10000x16x4x16, .f32⟩
  | 91 => ⟨S10000x16x4x16, .f32⟩
  | 92 => ⟨S_, .f32⟩
  | 93 => ⟨S10000x16x4x16, .f32⟩
  | 94 => ⟨S10000x16x4x16, .f32⟩
  | 95 => ⟨S10000x16x4x16, .f32⟩
  | 96 => ⟨S_, .f32⟩
  | 97 => ⟨S10000x4x16, .f32⟩
  | 98 => ⟨S10000x16x16, .f32⟩
  | 99 => ⟨S10000x16x16, .f32⟩
  | 100 => ⟨S10000x16x16, .f32⟩
  | 101 => ⟨S10000x16x16, .f32⟩
  | 102 => ⟨S10000x16x16, .f32⟩
  | 103 => ⟨S10000x16x16, .f32⟩
  | 104 => ⟨S10000x16x16, .f32⟩
  | 105 => ⟨S10000x16x16, .f32⟩
  | 106 => ⟨S_, .f32⟩
  | 107 => ⟨S10000x16, .f32⟩
  | 108 => ⟨S10000x1x16, .f32⟩
  | 109 => ⟨S_, .f32⟩
  | 110 => ⟨S10000x1x16, .f32⟩
  | 111 => ⟨S10000x1x16, .f32⟩
  | 112 => ⟨S10000x16x16, .f32⟩
  | 113 => ⟨S10000x16x16, .f32⟩
  | 114 => ⟨S10000x16x16, .i1⟩
  | 115 => ⟨S_, .f32⟩
  | 116 => ⟨S_, .f32⟩
  | 117 => ⟨S10000x16x16, .f32⟩
  | 118 => ⟨S10000x16x16, .f32⟩
  | 119 => ⟨S10000x4x16, .f32⟩
  | 120 => ⟨S10000x16x32, .f32⟩
  | 121 => ⟨S10000x32x16, .f32⟩
  | 122 => ⟨S1x32x1, .f32⟩
  | 123 => ⟨S10000x32x16, .f32⟩
  | 124 => ⟨S10000x32x16, .f32⟩
  | 125 => ⟨S16x1, .f32⟩
  | 126 => ⟨S10000x32x1, .f32⟩
  | 127 => ⟨S1x1x1, .f32⟩
  | _ => ⟨S10000x1x128, .f32⟩

abbrev hbmTy0_1 (i : Nat) : BufTy := match i % 128 with
  | 0 => ⟨S10000x32x1, .f32⟩
  | 1 => ⟨S10000x32x1, .f32⟩
  | 2 => ⟨S_, .f32⟩
  | 3 => ⟨S_, .f32⟩
  | 4 => ⟨S_, .f32⟩
  | 5 => ⟨S10000x32x1, .f32⟩
  | 6 => ⟨S10000x32x1, .f32⟩
  | 7 => ⟨S1x32x1, .f32⟩
  | 8 => ⟨S10000x32x1, .f32⟩
  | 9 => ⟨S10000x32x1, .f32⟩
  | 10 => ⟨S1x32x1, .f32⟩
  | 11 => ⟨S10000x32x1, .f32⟩
  | 12 => ⟨S10000x32x1, .f32⟩
  | 13 => ⟨S10000x32x1, .f32⟩
  | 14 => ⟨S_, .f32⟩
  | 15 => ⟨S10000x32x1, .f32⟩
  | 16 => ⟨S10000x32x1, .f32⟩
  | 17 => ⟨S10000x32x1, .f32⟩
  | 18 => ⟨S10000x32, .f32⟩
  | 19 => ⟨S32x32, .f32⟩
  | 20 => ⟨S10000x32, .f32⟩
  | 21 => ⟨S1x32, .f32⟩
  | 22 => ⟨S10000x32, .f32⟩
  | 23 => ⟨S10000x32, .f32⟩
  | 24 => ⟨S_, .f32⟩
  | 25 => ⟨S10000x32, .f32⟩
  | 26 => ⟨S10000x32, .f32⟩
  | 27 => ⟨S32x40, .f32⟩
  | 28 => ⟨S10000x40, .f32⟩
  | 29 => ⟨S1x40, .f32⟩
  | 30 => ⟨S10000x40, .f32⟩
  | 31 => ⟨S10000x40, .f32⟩
  | _ => ⟨S10000x1x128, .f32⟩

abbrev hbmTy (i : Nat) : BufTy := match i / 128 with
  | 0 => hbmTy0_0 i
  | 1 => hbmTy0_1 i
  | _ => ⟨S10000x1x128, .f32⟩

abbrev bufTy : (tb : Table) → Fin (tcTables nBuf tb) → BufTy
  | .hbm, ⟨i, _⟩ => hbmTy i
  | _, _ => ⟨S10000x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_4 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_6 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_7 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_8 : Ref sig .tc := ⟨.hbm, 106, rfl⟩
abbrev main_v77 : Ref sig .tc := ⟨.hbm, 107, rfl⟩
abbrev main_v78 : Ref sig .tc := ⟨.hbm, 108, rfl⟩
abbrev main_cst_9 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_10 : Ref sig .tc := ⟨.hbm, 115, rfl⟩
abbrev main_call1_v0 : Ref sig .tc := ⟨.hbm, 116, rfl⟩
abbrev main_call1_v1 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_11 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_12 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_13 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩

abbrev nD : Nat := 1
abbrev τ : Topo := Topo.v7x

variable {F : FTy → Type} [FloatOps F]
-- ==== Proof.Scalars.lean ====
/-
  The scalar mathematics of the network over the extended reals: infinities and what absorbs them, softsign, the signed
  square root, and the algebraic identity that folds a projection's affine map and a batch norm into one scale and one
  shift.
-/
module

public import Idealize.ShloMosaic.Lib.Pointwise
public import Idealize.ShloMosaic.Lib.IdealHost

@[expose] public section

noncomputable section

namespace Cert.Proof.Scalars

open Idealize.ShloMosaic

/-- A sum of reals, taken in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `max t (-t)` of a real is its absolute value. -/
theorem abs_coe (t : ℝ) : max (t : EReal) (-(t : EReal)) = ((|t| : ℝ) : EReal) := by
  rw [← EReal.coe_neg, abs_eq_max_neg, EReal.coe_strictMono.monotone.map_max]

/-- An extended real whose absolute value is below `⊤` is a real. -/
theorem coe_toReal_of_abs_lt {t : EReal} (h : max t (-t) < ⊤) : ((t.toReal : ℝ) : EReal) = t := by
  refine EReal.coe_toReal (fun e => ?_) (fun e => ?_)
  · rw [e] at h; simp at h
  · rw [e] at h; simp at h

/-- Division of reals by a real other than zero. -/
theorem div_coe_coe (a b : ℝ) (hb : b ≠ 0) : Ideal.div (a : EReal) (b : EReal) = ((a / b : ℝ) : EReal) := by
  rw [Ideal.div_coe hb, ← EReal.coe_mul, mul_one_div]

/-- Dividing anything by `⊤` gives zero. -/
theorem div_top (t : EReal) : Ideal.div t ⊤ = 0 := by
  rw [Ideal.div, if_neg EReal.top_ne_zero, EReal.inv_top, mul_zero]

/-- A sum of nonnegative terms one of which is `⊤` is `⊤`. -/
theorem sum_eq_top {ι : Type} [Fintype ι] (f : ι → EReal) (h : ∀ i, 0 ≤ f i) (i : ι) (hi : f i = ⊤) : ∑ i, f i = ⊤ :=
  top_unique (hi ▸ Finset.single_le_sum (fun j _ => h j) (Finset.mem_univ i))

/-- A nonnegative real factor comes out of a sum of anything. -/
theorem sum_mul_coe {ι : Type} [Fintype ι] (f : ι → EReal) (r : ℝ) (h : 0 ≤ r) :
    ∑ i, f i * (r : EReal) = (∑ i, f i) * (r : EReal) := by
  classical
  have key (s : Finset ι) : ∑ i ∈ s, f i * (r : EReal) = (∑ i ∈ s, f i) * (r : EReal) := by
    induction s using Finset.induction_on with
    | empty => simp
    | insert a s ha ih =>
      rw [Finset.sum_insert ha, Finset.sum_insert ha, ih,
        EReal.right_distrib_of_nonneg_of_ne_top (by exact_mod_cast h) (EReal.coe_ne_top r)]
  exact key _

/-! ## Infinite values -/

/-- One of the two infinities. -/
def Infinite (t : EReal) : Prop := t = ⊤ ∨ t = ⊥

theorem coe_toReal_of_not_infinite {t : EReal} (h : ¬ Infinite t) : ((t.toReal : ℝ) : EReal) = t :=
  EReal.coe_toReal (fun e => h (.inl e)) (fun e => h (.inr e))

/-- An infinity absorbs whatever is added to it, up to its sign. -/
theorem Infinite.add {a : EReal} (h : Infinite a) (b : EReal) : Infinite (a + b) := by
  rcases h with rfl | rfl
  · induction b with
    | bot => exact .inr (EReal.add_bot _)
    | coe b => exact .inl (EReal.top_add_coe b)
    | top => exact .inl rfl
  · exact .inr (EReal.bot_add b)

/-- A sum with an infinite term is infinite. -/
theorem Infinite.sum {ι : Type} [Fintype ι] {f : ι → EReal} {i : ι} (h : Infinite (f i)) : Infinite (∑ i, f i) := by
  classical
  rw [← Finset.add_sum_erase Finset.univ f (Finset.mem_univ i)]
  exact h.add _

/-- An infinity times a real other than zero is infinite. -/
theorem Infinite.mul {a : EReal} (h : Infinite a) {r : ℝ} (hr : r ≠ 0) : Infinite (a * (r : EReal)) := by
  rcases h with rfl | rfl <;> rcases lt_or_gt_of_ne hr with h0 | h0
  · exact .inr (EReal.top_mul_coe_of_neg h0)
  · exact .inl (EReal.top_mul_coe_of_pos h0)
  · exact .inl (EReal.bot_mul_coe_of_neg h0)
  · exact .inr (EReal.bot_mul_coe_of_pos h0)

/-! ## Softsign -/

/-- `t / (1 + |t|)`. -/
def softsign (t : EReal) : EReal := Ideal.div t (1 + max t (-t))

/-- Softsign is real at every extended real: at both infinities it is zero. -/
theorem softsign_real (t : EReal) : ((softsign t).toReal : EReal) = softsign t := by
  have h1 : (1 : EReal) + ⊤ = ⊤ := by rw [← EReal.coe_one]; exact EReal.coe_add_top 1
  have key : ∃ r : ℝ, softsign t = (r : EReal) := by
    induction t with
    | bot => exact ⟨0, by simp [softsign, h1, div_top]⟩
    | top => exact ⟨0, by simp [softsign, h1, div_top]⟩
    | coe r =>
      refine ⟨r / (1 + |r|), ?_⟩
      have h : (1 + |r|) ≠ 0 := by positivity
      rw [softsign, abs_coe, ← EReal.coe_one, ← EReal.coe_add, div_coe_coe _ _ h]
  obtain ⟨r, hr⟩ := key
  rw [hr, EReal.toReal_coe]

/-- Softsign is zero at both infinities. -/
theorem softsign_infinite {t : EReal} (h : Infinite t) : softsign t = 0 := by
  have h1 : (1 : EReal) + ⊤ = ⊤ := by rw [← EReal.coe_one]; exact EReal.coe_add_top 1
  rcases h with rfl | rfl <;> simp [softsign, h1, div_top]

/-! ## The square root of the absolute value, with and without the sign -/

/-- `√|t|`. -/
def mag (t : EReal) : EReal := Ideal.sqrt (max t (-t))

theorem mag_coe (t : ℝ) : mag (t : EReal) = ((√|t| : ℝ) : EReal) := by
  rw [mag, abs_coe, Ideal.sqrt_coe, if_neg (not_lt.mpr (abs_nonneg t))]

/-- `√|t|` negated below zero: the signed root as a choice between two values. -/
def pickRoot (t : EReal) : EReal := if t < 0 then 0 - mag t else mag t

/-- `sign t · √|t|`: the signed root as a product. -/
def signRoot (t : EReal) : EReal := Ideal.sign t * mag t

/-- The signed root of a real. -/
def root (t : ℝ) : ℝ := (SignType.sign t : ℝ) * √|t|

theorem signRoot_coe (t : ℝ) : signRoot (t : EReal) = ((root t : ℝ) : EReal) := by
  rw [signRoot, mag_coe, Ideal.sign_coe, ← EReal.coe_mul, root]

theorem pickRoot_coe (t : ℝ) : pickRoot (t : EReal) = ((root t : ℝ) : EReal) := by
  rw [pickRoot, mag_coe, root]
  by_cases h : t < 0
  · rw [if_pos (by exact_mod_cast h), sign_neg h]; norm_num
  · rw [if_neg (by exact_mod_cast h)]
    rcases eq_or_lt_of_le (not_lt.mp h) with h0 | h0
    · rw [← h0]; simp
    · rw [sign_pos h0]; norm_num

/-- The signed root has the root as its absolute value. -/
theorem abs_root (t : ℝ) : |root t| = √|t| := by
  rw [root, abs_mul, abs_of_nonneg (Real.sqrt_nonneg _)]
  rcases lt_trichotomy t 0 with h | h | h
  · rw [sign_neg h]; norm_num
  · rw [h]; simp
  · rw [sign_pos h]; norm_num

/-- At an infinity both the root of the absolute value and the absolute value of the signed root are `⊤`. -/
theorem mag_infinite {t : EReal} (h : Infinite t) : mag t = ⊤ := by
  rcases h with rfl | rfl <;> simp [mag]

theorem abs_signRoot_infinite {t : EReal} (h : Infinite t) : max (signRoot t) (-signRoot t) = ⊤ := by
  rw [signRoot, mag_infinite h]
  rcases h with rfl | rfl <;> simp

/-- An absolute value is not negative. -/
theorem abs_nonneg' (t : EReal) : 0 ≤ max t (-t) := by
  rcases le_total 0 t with h | h
  · exact le_max_of_le_left h
  · exact le_max_of_le_right (EReal.neg_nonneg.mpr h)

theorem mag_nonneg (t : EReal) : 0 ≤ mag t := by
  by_cases h : Infinite t
  · rw [mag_infinite h]; exact le_top
  · rw [← coe_toReal_of_not_infinite h, mag_coe]; exact_mod_cast Real.sqrt_nonneg _

/-! ## The two constants -/

/-- The `1e-7` that keeps a column's normalizer off zero. -/
def eps : EReal := Ideal.ofBits .f32 0x33D6BF95#32

/-- It is a positive real. -/
theorem eps_pos : 0 < eps.toReal ∧ ((eps.toReal : ℝ) : EReal) = eps := by
  have key : ∃ r : ℝ, 0 < r ∧ eps = (r : EReal) :=
    ⟨14073749 * (2 : ℝ) ^ (-47 : ℤ), by positivity, by
      simp [eps, Ideal.ofBits, Ideal.ieee, -EReal.coe_mul]⟩
  obtain ⟨r, h0, hr⟩ := key
  rw [hr, EReal.toReal_coe]
  exact ⟨h0, rfl⟩

/-- The batch norm's standard deviation, the root of `1 + 1e-5`. -/
def std : EReal := Ideal.sqrt (Ideal.ofBits .f32 0x3F800054#32)

/-- It is a positive real. -/
theorem std_pos : 0 < std.toReal ∧ ((std.toReal : ℝ) : EReal) = std := by
  have key : ∃ r : ℝ, 0 < r ∧ std = (r : EReal) := by
    have h : Ideal.ofBits .f32 0x3F800054#32 = ((8388692 * (2 : ℝ) ^ (-23 : ℤ) : ℝ) : EReal) := by
      simp [Ideal.ofBits, Ideal.ieee, -EReal.coe_mul]
    refine ⟨√(8388692 * (2 : ℝ) ^ (-23 : ℤ)), Real.sqrt_pos.mpr (by positivity), ?_⟩
    rw [std, h, Ideal.sqrt_coe, if_neg (not_lt.mpr (by positivity))]
  obtain ⟨r, h0, hr⟩ := key
  rw [hr, EReal.toReal_coe]
  exact ⟨h0, rfl⟩

/-! ## A batch norm folded into the affine map before it -/

/-- A real factor distributes over a real plus anything. -/
theorem coe_add_mul_coe (a k : ℝ) (y : EReal) : ((a : EReal) + y) * (k : EReal) = ((a * k : ℝ) : EReal) + y * (k : EReal) := by
  induction y with
  | coe y => rw [← EReal.coe_add, ← EReal.coe_mul, ← EReal.coe_mul, ← EReal.coe_add]; congr 1; ring
  | top =>
    rw [EReal.coe_add_top]
    rcases lt_trichotomy k 0 with h | h | h
    · rw [EReal.top_mul_coe_of_neg h, EReal.add_bot]
    · rw [h]; simp
    · rw [EReal.top_mul_coe_of_pos h, EReal.coe_add_top]
  | bot =>
    rw [EReal.add_bot]
    rcases lt_trichotomy k 0 with h | h | h
    · rw [EReal.bot_mul_coe_of_neg h, EReal.coe_add_top]
    · rw [h]; simp
    · rw [EReal.bot_mul_coe_of_pos h, EReal.add_bot]

/-- The normalized value `((a + bt) / σ) · g + be` with the scale `k = g / σ` folded through: `a`, `g` real, the shifts
    `bt`, `be` anything. -/
theorem norm_eq (a g : ℝ) (bt be : EReal) :
    Ideal.div ((a : EReal) + bt) std * (g : EReal) + be
      = ((a * (g / std.toReal) : ℝ) : EReal) + (bt * ((g / std.toReal : ℝ) : EReal) + be) := by
  obtain ⟨h0, hs⟩ := std_pos
  rw [← hs, EReal.toReal_coe, Ideal.div_coe h0.ne', coe_add_mul_coe, coe_add_mul_coe, mul_assoc bt, ← EReal.coe_mul,
    add_assoc, show a * (1 / std.toReal) * g = a * (g / std.toReal) by ring,
    show 1 / std.toReal * g = g / std.toReal by ring]

/-- The folded form: scale times (real plus shift), plus the last shift. -/
theorem fold_eq (a b g : ℝ) (bt be : EReal) :
    (a : EReal) + (Ideal.div (g : EReal) std * ((b : EReal) + bt) + be)
      = ((a + b * (g / std.toReal) : ℝ) : EReal) + (bt * ((g / std.toReal : ℝ) : EReal) + be) := by
  obtain ⟨h0, hs⟩ := std_pos
  rw [← hs, EReal.toReal_coe, div_coe_coe _ _ h0.ne', mul_comm, coe_add_mul_coe, EReal.coe_add]
  simp only [add_assoc]

/-! ## A projection, its affine map and the batch norm, under softsign -/

section Fold

variable {n : ℕ} (e : Fin n → EReal) (w : Fin n → ℝ) (W b g : ℝ) (bt be : EReal)

/-- The affine map first, then the projection, the shift and the batch norm, as the reference has them. -/
def affineFirst : EReal :=
  Ideal.div (∑ i, (e i * (W : EReal) + (b : EReal)) * (w i : EReal) + bt) std * (g : EReal) + be

/-- The projection first, then one scale and one shift, as the kernel has them. -/
def projectFirst : EReal :=
  Ideal.div (g : EReal) std * (W : EReal) * ∑ i, e i * (w i : EReal)
    + (Ideal.div (g : EReal) std * ((b : EReal) * ∑ i, (w i : EReal) + bt) + be)

/-- On real values the two agree. -/
theorem affineFirst_coe (e : Fin n → ℝ) :
    affineFirst (fun i => (e i : EReal)) w W b g bt be = projectFirst (fun i => (e i : EReal)) w W b g bt be := by
  have hs := std_pos
  simp only [affineFirst, projectFirst, ← EReal.coe_mul, ← EReal.coe_add, coe_sum]
  rw [norm_eq, show Ideal.div (g : EReal) std * (W : EReal) = ((g / std.toReal * W : ℝ) : EReal) by
    conv_lhs => rw [← hs.2]
    rw [div_coe_coe _ _ hs.1.ne', EReal.coe_mul], ← EReal.coe_mul, fold_eq]
  congr 2
  simp only [add_mul, Finset.sum_add_distrib, Finset.mul_sum, Finset.sum_mul]
  congr 1
  exact Finset.sum_congr rfl fun i _ => by ring

/-- Both read `e` through its products with the weights only: where a weight is zero the value does not count. -/
theorem fold_congr (e' : Fin n → EReal) (h : ∀ i, w i ≠ 0 → e i = e' i) :
    affineFirst e w W b g bt be = affineFirst e' w W b g bt be
      ∧ projectFirst e w W b g bt be = projectFirst e' w W b g bt be := by
  have h1 (i : Fin n) : (e i * (W : EReal) + (b : EReal)) * (w i : EReal) = (e' i * (W : EReal) + (b : EReal)) * (w i : EReal) := by
    by_cases hw : w i = 0
    · simp [hw]
    · rw [h i hw]
  have h2 (i : Fin n) : e i * (w i : EReal) = e' i * (w i : EReal) := by
    by_cases hw : w i = 0
    · simp [hw]
    · rw [h i hw]
  exact ⟨by simp only [affineFirst, h1], by simp only [projectFirst, h2]⟩

/-- Under softsign the two agree on every extended real: where an infinite value counts, both are infinite, with signs
    that may differ, or the factor `W · g` is zero and neither reads it. -/
theorem softsign_fold : softsign (affineFirst e w W b g bt be) = softsign (projectFirst e w W b g bt be) := by
  by_cases hfin : ∀ i, w i ≠ 0 → ¬ Infinite (e i)
  · obtain ⟨h1, h2⟩ := fold_congr e w W b g bt be (fun i => (((e i).toReal : ℝ) : EReal))
      fun i hi => (coe_toReal_of_not_infinite (hfin i hi)).symm
    rw [h1, h2, affineFirst_coe]
  · push Not at hfin
    obtain ⟨i, hw, hi⟩ := hfin
    have hs := std_pos
    have hk : Ideal.div (g : EReal) std = ((g / std.toReal : ℝ) : EReal) := by
      conv_lhs => rw [← hs.2]
      exact div_coe_coe _ _ hs.1.ne'
    by_cases hW : W = 0
    · have := affineFirst_coe w 0 b g bt be (fun _ : Fin n => 0)
      subst hW
      simp only [affineFirst, projectFirst, EReal.coe_zero, mul_zero, zero_mul] at this ⊢
      simp only [Finset.sum_const_zero, zero_add] at this ⊢
      rw [this]
    · by_cases hg : g = 0
      · rw [affineFirst, projectFirst, hk, hg]
        simp
      · have h1 : Infinite (affineFirst e w W b g bt be) := by
          rw [affineFirst, ← hs.2, Ideal.div_coe hs.1.ne']
          refine Infinite.add (Infinite.mul (Infinite.mul (Infinite.add (Infinite.sum (i := i) ?_) _) ?_) hg) _
          · exact ((hi.mul hW).add _).mul hw
          · exact (one_div_pos.mpr hs.1).ne'
        have h2 : Infinite (projectFirst e w W b g bt be) := by
          rw [projectFirst, hk, ← EReal.coe_mul, mul_comm ((g / std.toReal * W : ℝ) : EReal)]
          refine Infinite.add (Infinite.mul (Infinite.sum (i := i) (hi.mul hw)) ?_) _
          exact mul_ne_zero (div_ne_zero hg hs.1.ne') hW
        rw [softsign_infinite h1, softsign_infinite h2]

end Fold

end Cert.Proof.Scalars

end
-- ==== Proof.Model.lean ====
/-
  The network at one node, in three writings: `Net`, what both programs are shown to compute, the blocked kernel's
  evaluation of it, and the reference's. The features may be infinite; from the first activation on everything that is
  aggregated is real. The `kernel_` and `reference_` theorems say that both evaluations are the network.
-/
module

public import proofs.«01_k».proof.Proof.Scalars

@[expose] public section

noncomputable section

namespace Cert.Proof.Model

open Idealize.ShloMosaic Cert.Proof.Scalars

/-- One node's features, its sixteen neighbours' features, and the parameters of the two layers. The features and the
    additive shifts `bt1`, `be1`, `bt2`, `be2` may be infinite; everything else is real. -/
structure Net where
  x : Fin 128 → EReal
  nb : Fin 16 → Fin 128 → EReal
  W1 : Fin 4 → ℝ
  b1 : Fin 4 → ℝ
  Wt1 : Fin 16 → Fin 128 → ℝ
  bt1 : Fin 16 → EReal
  g1 : Fin 4 → ℝ
  be1 : Fin 4 → EReal
  W2 : Fin 32 → Fin 4 → ℝ
  b2 : Fin 32 → ℝ
  Wt2 : Fin 16 → ℝ
  bt2 : EReal
  g2 : Fin 32 → ℝ
  be2 : Fin 32 → EReal

/-! ## Aggregation over a column-normalized signed root -/

section Aggregate

variable {n : ℕ}

/-- Features `h` aggregated over the signed root of `r`, each column divided by its sum of roots. -/
def agg (r : Fin n → Fin n → ℝ) (h : Fin n → ℝ) (g : Fin n) : ℝ :=
  (∑ f, h f * root (r f g)) / (∑ f, √|r f g| + eps.toReal)

/-- The kernel's: sum first, divide once. -/
def aggPick (r : Fin n → Fin n → EReal) (h : Fin n → EReal) (g : Fin n) : EReal :=
  Ideal.div (∑ f, h f * pickRoot (r f g)) (∑ f, mag (r f g) + eps)

/-- The reference's normalized adjacency: each entry divided by its column's normalizer. -/
def adj (r : Fin n → Fin n → EReal) (f g : Fin n) : EReal :=
  Ideal.div (signRoot (r f g)) (∑ x, max (signRoot (r x g)) (-signRoot (r x g)) + eps)

/-- The reference's: divide every entry, then sum. -/
def aggAdj (r : Fin n → Fin n → EReal) (h : Fin n → EReal) (g : Fin n) : EReal :=
  ∑ f, h f * adj r f g

theorem den_pos (r : Fin n → Fin n → ℝ) (g : Fin n) : 0 < ∑ f, √|r f g| + eps.toReal :=
  add_pos_of_nonneg_of_pos (Finset.sum_nonneg fun _ _ => Real.sqrt_nonneg _) eps_pos.1

theorem aggPick_coe (r : Fin n → Fin n → ℝ) (h : Fin n → ℝ) (g : Fin n) :
    aggPick (fun f g => (r f g : EReal)) (fun f => (h f : EReal)) g = ((agg r h g : ℝ) : EReal) := by
  rw [aggPick, ← eps_pos.2]
  simp only [pickRoot_coe, mag_coe, ← EReal.coe_mul, coe_sum, ← EReal.coe_add]
  rw [div_coe_coe _ _ (den_pos r g).ne', agg]

/-- The two agree on anything: where a column of the adjacency holds an infinity both are zero, otherwise its normalizer
    is a positive real and comes out of the sum. -/
theorem aggAdj_eq (r : Fin n → Fin n → EReal) (h : Fin n → EReal) (g : Fin n) : aggAdj r h g = aggPick r h g := by
  by_cases hinf : ∃ f, Infinite (r f g)
  · obtain ⟨f, hf⟩ := hinf
    have h1 : (⊤ : EReal) + eps = ⊤ := by rw [← eps_pos.2]; exact EReal.top_add_coe _
    simp only [aggAdj, adj, aggPick]
    rw [sum_eq_top (fun x => mag (r x g)) (fun x => mag_nonneg _) f (mag_infinite hf),
      sum_eq_top (fun x => max (signRoot (r x g)) (-signRoot (r x g))) (fun x => abs_nonneg' _) f (abs_signRoot_infinite hf),
      h1]
    simp only [div_top, mul_zero, Finset.sum_const_zero]
  · have hr (f : Fin n) : r f g = (((r f g).toReal : ℝ) : EReal) :=
      (coe_toReal_of_not_infinite fun hf => hinf ⟨f, hf⟩).symm
    have hd : 0 < ∑ f, √|(r f g).toReal| + eps.toReal := den_pos (fun f g => (r f g).toReal) g
    have e1 (f : Fin n) : signRoot (r f g) = ((root (r f g).toReal : ℝ) : EReal) := by
      conv_lhs => rw [hr f]
      exact signRoot_coe _
    have e2 (f : Fin n) : pickRoot (r f g) = ((root (r f g).toReal : ℝ) : EReal) := by
      conv_lhs => rw [hr f]
      exact pickRoot_coe _
    have e3 (f : Fin n) : mag (r f g) = ((√|(r f g).toReal| : ℝ) : EReal) := by
      conv_lhs => rw [hr f]
      exact mag_coe _
    simp only [aggAdj, adj, aggPick, e1, e2, e3, abs_coe, abs_root, coe_sum]
    conv_lhs => rw [← eps_pos.2]
    conv_rhs => rw [← eps_pos.2]
    simp only [← EReal.coe_add, Ideal.div_coe hd.ne', ← mul_assoc]
    exact sum_mul_coe _ _ (one_div_pos.mpr hd).le

end Aggregate

/-! ## The network -/

namespace Net

variable (N : Net)

/-- The node's features times its neighbours' summed features, symmetrized. -/
def raw1 (f g : Fin 128) : EReal := N.x f * ∑ m, N.nb m g + N.x g * ∑ m, N.nb m f

/-- The first layer's normalized value of the feature row `h`, channel `c`, column `k`. -/
def pre1 (h : Fin 128 → EReal) (c : Fin 4) (k : Fin 16) : EReal :=
  affineFirst (aggAdj N.raw1 h) (N.Wt1 k) (N.W1 c) (N.b1 c) (N.g1 c) (N.bt1 k) (N.be1 c)

/-- The first layer's activation. -/
def act1 (h : Fin 128 → EReal) (c : Fin 4) (k : Fin 16) : ℝ := (softsign (N.pre1 h c k)).toReal

/-- The second layer's raw adjacency. -/
def raw2 (f g : Fin 16) : ℝ :=
  ∑ c, N.act1 N.x c f * ∑ m, N.act1 (N.nb m) c g + ∑ c, N.act1 N.x c g * ∑ m, N.act1 (N.nb m) c f

/-- The second layer's normalized value. -/
def pre2 (z : Fin 32) : EReal :=
  (((∑ g, ((∑ c, agg N.raw2 (N.act1 N.x c) g * N.W2 z c) + N.b2 z) * N.Wt2 g) * (N.g2 z / std.toReal) : ℝ) : EReal)
    + (N.bt2 * ((N.g2 z / std.toReal : ℝ) : EReal) + N.be2 z)

theorem softsign_pre1 (h : Fin 128 → EReal) (c : Fin 4) (k : Fin 16) :
    softsign (N.pre1 h c k) = ((N.act1 h c k : ℝ) : EReal) := (softsign_real _).symm

end Net

/-- The classifier on the flattened activations: two affine maps with a rectifier between. -/
def classify (p : Fin 32 → EReal) (wc1 : Fin 32 → Fin 32 → EReal) (bc1 : Fin 32 → EReal) (wc2 : Fin 32 → Fin 40 → EReal)
    (bc2 : Fin 40 → EReal) (o : Fin 40) : EReal :=
  ∑ j, max (∑ z, softsign (p z) * wc1 z j + bc1 j) 0 * wc2 j o + bc2 o

/-! ## The kernel's evaluation -/

namespace Kernel

/-- Row `1 + m` of the seventeen stacked rows: neighbour `m`. -/
def nbr (m : Fin 16) : Fin 17 := ⟨1 + (m : ℕ), by omega⟩

variable (u : Fin 17 → Fin 128 → EReal) (w : Fin 128 → Fin 16 → EReal) (a : Fin 4 → EReal) (d : Fin 4 → Fin 16 → EReal)
variable (wt2 : Fin 16 → EReal) (w2 : Fin 4 → Fin 32 → EReal) (b2 : Fin 32 → EReal)

/-- The first layer's raw adjacency, from the stacked rows. -/
def raw1 (f g : Fin 128) : EReal := u 0 f * ∑ m, u (nbr m) g + (∑ m, u (nbr m) f) * u 0 g

/-- The aggregated row `m`, projected. -/
def proj (m : Fin 17) (k : Fin 16) : EReal := ∑ g, aggPick (raw1 u) (u m) g * w g k

/-- The activation of row `m`. -/
def act (t : Fin 17 → Fin 16 → EReal) (m : Fin 17) (c : Fin 4) (k : Fin 16) : EReal := softsign (a c * t m k + d c k)

/-- The second layer's raw adjacency. -/
def raw2 (s : Fin 17 → Fin 4 → Fin 16 → EReal) (f g : Fin 16) : EReal :=
  ∑ c, s 0 c f * ∑ m, s (nbr m) c g + ∑ c, s 0 c g * ∑ m, s (nbr m) c f

/-- The second layer's normalized value. -/
def pre2 (s : Fin 17 → Fin 4 → Fin 16 → EReal) (z : Fin 32) : EReal :=
  ∑ c, (∑ g, aggPick (raw2 s) (s 0 c) g * wt2 g) * w2 c z + b2 z

end Kernel

variable (N : Net)

/-- The rows the kernel stacks: the node itself, then its neighbours. -/
def Net.row (m : Fin 17) (g : Fin 128) : EReal := if h : (m : ℕ) < 1 then N.x g else N.nb ⟨(m : ℕ) - 1, by omega⟩ g

theorem Net.row_zero : N.row 0 = N.x := by
  funext g; simp [Net.row]

theorem Net.row_nbr (m : Fin 16) : N.row (Kernel.nbr m) = N.nb m := by
  funext g; simp [Net.row, Kernel.nbr]

/-- The kernel's first layer computes the network's first layer, row by row. -/
theorem kernel_act1 (m : Fin 17) (c : Fin 4) (k : Fin 16) :
    Kernel.act (fun c => Ideal.div (N.g1 c : EReal) std * (N.W1 c : EReal))
        (fun c k => Ideal.div (N.g1 c : EReal) std * ((N.b1 c : EReal) * ∑ g, (N.Wt1 k g : EReal) + N.bt1 k) + N.be1 c)
        (Kernel.proj N.row fun g k => (N.Wt1 k g : EReal)) m c k
      = ((N.act1 (N.row m) c k : ℝ) : EReal) := by
  have hr : Kernel.raw1 N.row = N.raw1 := by
    funext f g
    simp only [Kernel.raw1, N.row_zero, N.row_nbr, Net.raw1, mul_comm]
  rw [← N.softsign_pre1, Kernel.act, Kernel.proj, hr, Net.pre1, softsign_fold]
  simp only [projectFirst, aggAdj_eq]

/-- The kernel's second layer computes the network's. -/
theorem kernel_pre2 (z : Fin 32) :
    Kernel.pre2 (fun g => (N.Wt2 g : EReal)) (fun c z => Ideal.div (N.g2 z : EReal) std * (N.W2 z c : EReal))
        (fun z => Ideal.div (N.g2 z : EReal) std * ((N.b2 z : EReal) * ∑ g, (N.Wt2 g : EReal) + N.bt2) + N.be2 z)
        (fun m c k => ((N.act1 (N.row m) c k : ℝ) : EReal)) z
      = N.pre2 z := by
  have hr : Kernel.raw2 (fun m c k => ((N.act1 (N.row m) c k : ℝ) : EReal)) = fun f g => ((N.raw2 f g : ℝ) : EReal) := by
    funext f g
    simp only [Kernel.raw2, N.row_zero, N.row_nbr, coe_sum, ← EReal.coe_mul, ← EReal.coe_add, Net.raw2]
  have hs := std_pos
  have hw (c : Fin 4) : Ideal.div (N.g2 z : EReal) std * (N.W2 z c : EReal)
      = ((N.g2 z / std.toReal * N.W2 z c : ℝ) : EReal) := by
    conv_lhs => rw [← hs.2]
    rw [div_coe_coe _ _ hs.1.ne', EReal.coe_mul]
  rw [Kernel.pre2, hr]
  simp only [hw, N.row_zero, aggPick_coe, coe_sum, ← EReal.coe_mul]
  rw [fold_eq, Net.pre2]
  congr 2
  simp only [add_mul, Finset.sum_add_distrib, Finset.mul_sum, Finset.sum_mul]
  congr 1
  rw [Finset.sum_comm]
  exact Finset.sum_congr rfl fun g _ => Finset.sum_congr rfl fun c _ => by ring

/-! ## The reference's evaluation -/

/-- The reference's second layer. -/
theorem reference_pre2 (z : Fin 32) :
    Ideal.div (∑ g, (∑ c, aggAdj (fun f g => ((N.raw2 f g : ℝ) : EReal)) (fun f => ((N.act1 N.x c f : ℝ) : EReal)) g
          * (N.W2 z c : EReal) + (N.b2 z : EReal)) * (N.Wt2 g : EReal) + N.bt2) std * (N.g2 z : EReal) + N.be2 z
      = N.pre2 z := by
  simp only [aggAdj_eq, aggPick_coe, ← EReal.coe_mul, ← EReal.coe_add, coe_sum]
  rw [norm_eq, Net.pre2]

end Cert.Proof.Model

end
-- ==== Proof.Precondition.lean ====
/-
  What the precondition gives: every element of the arrays it names is finite.
-/
module

public import proofs.«01_k».proof.Pre_finite
public import proofs.«01_k».proof.Proof.Model
public import Idealize.ShloMosaic.Lib.ReduceAll
public import Idealize.ShloMosaic.Lib.Pointwise

@[expose] public section

set_option maxRecDepth 16384

noncomputable section

namespace Cert.Proof.Precondition

open Idealize.ShloMosaic Cert.Pre_finite

/-- The shape relations the printed precondition's operations take. -/
theorem facts : Cert.Pre_finite.Facts := by
  constructor <;> decide

/-- An array all of whose entries compare below the infinity in absolute value is finite. -/
theorem finite_of_all {s t : Shape} {axes : List (Fin s.rank)} [Subsingleton t.Idx] (a : FVec Ideal s .f32)
    (hb : S_.BroadcastsInDim s (![] : Fin 0 → Fin s.rank)) (hr : s.ReducesTo axes t) (hu : 0 < S_.numel) (j : t.Idx)
    (h : Host.reduce IntOp.andi (cmpf .olt (Host.absf a) (broadcastInDim s ![] hb (constant S_ .f32 0x7F800000#32)))
      (constantI S_ 1 1#1) hr hu j = 1#1) (i : s.Idx) : max (a i) (-a i) < ⊤ := by
  have h1 := Host.reduce_andi_all _ _ _ _ j h i
  have h2 : Ideal.ofBits .f32 0x7F800000#32 = ⊤ := by
    simp [Ideal.ofBits, Ideal.ieee]
  have h3 : BitVec.ofBool (decide (max (a i) (-a i) < Ideal.ofBits .f32 0x7F800000#32)) = 1#1 := h1
  rw [h2] at h3
  by_contra hn
  rw [decide_eq_false hn] at h3
  exact absurd h3 (by decide)

/-- The eighteen argument arrays. -/
structure Args where
  x : FVec Ideal S10000x1x128 .f32
  nb : FVec Ideal S10000x1x16x1x128 .f32
  W1 : FVec Ideal S4x1 .f32
  b1 : FVec Ideal S4 .f32
  Wt1 : FVec Ideal S16x128 .f32
  bt1 : FVec Ideal S16 .f32
  g1 : FVec Ideal S4 .f32
  be1 : FVec Ideal S4 .f32
  W2 : FVec Ideal S32x4 .f32
  b2 : FVec Ideal S32 .f32
  Wt2 : FVec Ideal S1x16 .f32
  bt2 : FVec Ideal S1 .f32
  g2 : FVec Ideal S32 .f32
  be2 : FVec Ideal S32 .f32
  Wc1 : FVec Ideal S32x32 .f32
  bc1 : FVec Ideal S32 .f32
  Wc2 : FVec Ideal S40x32 .f32
  bc2 : FVec Ideal S40 .f32

namespace Args

variable (A : Args)

/-- The network at node `i`. -/
def net (i : Fin 10000) : Model.Net where
  x g := A.x (ix3 i 0 g)
  nb m g := A.nb (ix5 i 0 m 0 g)
  W1 c := (A.W1 (ix2 c 0)).toReal
  b1 c := (A.b1 (ix1 c)).toReal
  Wt1 k g := (A.Wt1 (ix2 k g)).toReal
  bt1 k := A.bt1 (ix1 k)
  g1 c := (A.g1 (ix1 c)).toReal
  be1 c := A.be1 (ix1 c)
  W2 z c := (A.W2 (ix2 z c)).toReal
  b2 z := (A.b2 (ix1 z)).toReal
  Wt2 g := (A.Wt2 (ix2 0 g)).toReal
  bt2 := A.bt2 (ix1 0)
  g2 z := (A.g2 (ix1 z)).toReal
  be2 z := A.be2 (ix1 z)

/-- The result: every node's class scores. -/
def out (i : Fin 10000) (o : Fin 40) : EReal :=
  Model.classify (A.net i).pre2 (fun z j => A.Wc1 (ix2 j z)) (fun j => A.bc1 (ix1 j)) (fun j o => A.Wc2 (ix2 o j))
    (fun o => A.bc2 (ix1 o)) o

/-- The same as an array. -/
def result : FVec Ideal ⟨2, ![10000, 40]⟩ .f32 := fun j => A.out (j 0) (j 1)

/-- The arrays the precondition names hold real numbers. -/
structure Finite : Prop where
  W1 : ∀ j, ((A.W1 j).toReal : EReal) = A.W1 j
  b1 : ∀ j, ((A.b1 j).toReal : EReal) = A.b1 j
  Wt1 : ∀ j, ((A.Wt1 j).toReal : EReal) = A.Wt1 j
  g1 : ∀ j, ((A.g1 j).toReal : EReal) = A.g1 j
  W2 : ∀ j, ((A.W2 j).toReal : EReal) = A.W2 j
  b2 : ∀ j, ((A.b2 j).toReal : EReal) = A.b2 j
  Wt2 : ∀ j, ((A.Wt2 j).toReal : EReal) = A.Wt2 j
  g2 : ∀ j, ((A.g2 j).toReal : EReal) = A.g2 j

namespace Finite

variable {A} (hF : A.Finite) (i : Fin 10000)
include hF

theorem net_W1 (c : Fin 4) : (((A.net i).W1 c : ℝ) : EReal) = A.W1 (ix2 c 0) := hF.W1 _
theorem net_b1 (c : Fin 4) : (((A.net i).b1 c : ℝ) : EReal) = A.b1 (ix1 c) := hF.b1 _
theorem net_Wt1 (k : Fin 16) (g : Fin 128) : (((A.net i).Wt1 k g : ℝ) : EReal) = A.Wt1 (ix2 k g) := hF.Wt1 _
theorem net_g1 (c : Fin 4) : (((A.net i).g1 c : ℝ) : EReal) = A.g1 (ix1 c) := hF.g1 _
theorem net_W2 (z : Fin 32) (c : Fin 4) : (((A.net i).W2 z c : ℝ) : EReal) = A.W2 (ix2 z c) := hF.W2 _
theorem net_b2 (z : Fin 32) : (((A.net i).b2 z : ℝ) : EReal) = A.b2 (ix1 z) := hF.b2 _
theorem net_Wt2 (g : Fin 16) : (((A.net i).Wt2 g : ℝ) : EReal) = A.Wt2 (ix2 0 g) := hF.Wt2 _
theorem net_g2 (z : Fin 32) : (((A.net i).g2 z : ℝ) : EReal) = A.g2 (ix1 z) := hF.g2 _

end Finite

/-- The printed precondition gives that. -/
theorem finite_of_fn [Cert.Pre_finite.Facts]
    (h : Cert.Pre_finite.fn (F := Ideal) A.x A.nb A.W1 A.b1 A.Wt1 A.bt1 A.g1 A.be1 A.W2 A.b2 A.Wt2 A.bt2 A.g2 A.be2 A.Wc1 A.bc1
      A.Wc2 A.bc2 = fun _ => 1#1) : A.Finite := by
  have h0 := congrFun h (fun a => a.elim0)
  simp only [Cert.Pre_finite.fn, Cert.Pre_finite.fn_part1, Cert.Pre_finite.fn_part2] at h0
  have : Subsingleton S_.Idx := ⟨fun a b => funext fun x => x.elim0⟩
  have split (p q : IVec S_ 1) (j : S_.Idx) (e : andi p q j = 1#1) : p j = 1#1 ∧ q j = 1#1 := by
    have e' : p j &&& q j = 1#1 := e
    generalize p j = u at *
    generalize q j = v at *
    revert u v; decide
  obtain ⟨h0, hg2⟩ := split _ _ _ h0
  obtain ⟨h0, hWt2⟩ := split _ _ _ h0
  obtain ⟨h0, hb2⟩ := split _ _ _ h0
  obtain ⟨h0, hW2⟩ := split _ _ _ h0
  obtain ⟨h0, hg1⟩ := split _ _ _ h0
  obtain ⟨h0, hWt1⟩ := split _ _ _ h0
  obtain ⟨hW1, hb1⟩ := split _ _ _ h0
  have real {s : Shape} {axes : List (Fin s.rank)} (a : FVec Ideal s .f32) (hb) (hr : s.ReducesTo axes S_) (hu) (j)
      (e : Host.reduce IntOp.andi (cmpf .olt (Host.absf a) (broadcastInDim s ![] hb (constant S_ .f32 0x7F800000#32)))
        (constantI S_ 1 1#1) hr hu j = 1#1) (i : s.Idx) : ((a i).toReal : EReal) = a i :=
    Scalars.coe_toReal_of_abs_lt (finite_of_all a hb hr hu j e i)
  exact ⟨real _ _ _ _ _ hW1, real _ _ _ _ _ hb1, real _ _ _ _ _ hWt1, real _ _ _ _ _ hg1, real _ _ _ _ _ hW2,
    real _ _ _ _ _ hb2, real _ _ _ _ _ hWt2, real _ _ _ _ _ hg2⟩

end Args

end Cert.Proof.Precondition

end
-- ==== Proof.KernelHost.lean ====
/-
  The kernel's host operations: the arrays they hand the launch, read at an index.
-/
module

public import proofs.«01_k».proof.Proof.Precondition
public import proofs.«01_k».proof.Proof.Gen.KernelIdeal.Frame
public import Idealize.ShloMosaic.Lib.StableHlo.ReadAt

@[expose] public section

set_option maxRecDepth 16384

noncomputable section

namespace Cert.Proof.KernelHost

open Cert.KernelIdeal Cert.KernelIdeal.Gen Idealize.ShloMosaic Idealize.ShloMosaic.TcCoe Idealize.ShloMosaic.StableHlo
open Idealize.SL.Sem
open Cert.Proof.Scalars Cert.Proof.Model Cert.Proof.Precondition

variable (m : (ℓ : Loc nD τ sig) → Buf (Elt Ideal) ℓ) (c : Dev nD)

/-- The arguments, as the kernel is launched on them. -/
def args : Args where
  x := m ((c : Thread nD τ).loc main_arg0)
  nb := m ((c : Thread nD τ).loc main_arg1)
  W1 := m ((c : Thread nD τ).loc main_arg2)
  b1 := m ((c : Thread nD τ).loc main_arg3)
  Wt1 := m ((c : Thread nD τ).loc main_arg4)
  bt1 := m ((c : Thread nD τ).loc main_arg5)
  g1 := m ((c : Thread nD τ).loc main_arg6)
  be1 := m ((c : Thread nD τ).loc main_arg7)
  W2 := m ((c : Thread nD τ).loc main_arg8)
  b2 := m ((c : Thread nD τ).loc main_arg9)
  Wt2 := m ((c : Thread nD τ).loc main_arg10)
  bt2 := m ((c : Thread nD τ).loc main_arg11)
  g2 := m ((c : Thread nD τ).loc main_arg12)
  be2 := m ((c : Thread nD τ).loc main_arg13)
  Wc1 := m ((c : Thread nD τ).loc main_arg14)
  bc1 := m ((c : Thread nD τ).loc main_arg15)
  Wc2 := m ((c : Thread nD τ).loc main_arg16)
  bc2 := m ((c : Thread nD τ).loc main_arg17)

/-! ## What the host hands the windows -/

/-- Row 0 of a node is its own features, row `1 + m` its neighbour `m`'s. -/
theorem host_rows (i : Fin 10000) (r : Fin 17) (g : Fin 128) :
    (V m c main_call0_v1 : FVec Ideal S10000x17x128 .f32) (ix3 i r g) = ((args m c).net i).row r g := by
  unfold V
  after_reads_at
  rw [Net.row]
  split
  · after_reads_at
    exact congrArg (fun k => (args m c).x (ix3 i k g)) (Subsingleton.elim _ _)
  · after_reads_at
    rfl

theorem host_Wt1 (g : Fin 128) (k : Fin 16) :
    (V m c main_call0_v42 : FVec Ideal S128x16 .f32) (ix2 g k) = (args m c).Wt1 (ix2 k g) := by
  unfold V
  after_reads_at
  rfl

/-- The first layer's folded channel scale. -/
theorem host_scale1 (k : Fin 4) :
    (V m c main_call0_v8 : FVec Ideal S1x4 .f32) (ix2 0 k)
      = Ideal.div ((args m c).g1 (ix1 k)) std * (args m c).W1 (ix2 k 0) := by
  unfold V
  after_reads_at
  rfl

/-- The first layer's folded shift. -/
theorem host_shift1 (k : Fin 4) (l : Fin 16) :
    (V m c main_call0_v23 : FVec Ideal S4x16 .f32) (ix2 k l)
      = Ideal.div ((args m c).g1 (ix1 k)) std
          * ((args m c).b1 (ix1 k) * ∑ g, (args m c).Wt1 (ix2 l g) + (args m c).bt1 (ix1 l)) + (args m c).be1 (ix1 k) := by
  unfold V
  after_reads_at
  rfl

theorem host_Wt2 (g : Fin 16) : (V m c main_call0_v43 : FVec Ideal S16x1 .f32) (ix2 g 0) = (args m c).Wt2 (ix2 0 g) := by
  unfold V
  after_reads_at
  rfl

/-- The second layer's folded channel scale. -/
theorem host_scale2 (k : Fin 4) (z : Fin 32) :
    (V m c main_call0_v33 : FVec Ideal S4x32 .f32) (ix2 k z)
      = Ideal.div ((args m c).g2 (ix1 z)) std * (args m c).W2 (ix2 z k) := by
  unfold V
  after_reads_at
  rfl

/-- The second layer's folded shift. -/
theorem host_shift2 (z : Fin 32) :
    (V m c main_call0_v41 : FVec Ideal S1x32 .f32) (ix2 0 z)
      = Ideal.div ((args m c).g2 (ix1 z)) std
          * ((args m c).b2 (ix1 z) * ∑ g, (args m c).Wt2 (ix2 0 g) + (args m c).bt2 (ix1 0)) + (args m c).be2 (ix1 z) := by
  unfold V
  after_reads_at
  rfl

theorem host_Wc1 (z j : Fin 32) : (V m c main_call0_v44 : FVec Ideal S32x32 .f32) (ix2 z j) = (args m c).Wc1 (ix2 j z) := by
  unfold V
  after_reads_at
  rfl

theorem host_bc1 (j : Fin 32) : (V m c main_call0_v46 : FVec Ideal S1x32 .f32) (ix2 0 j) = (args m c).bc1 (ix1 j) := by
  unfold V
  after_reads_at
  rfl

theorem host_Wc2 (j : Fin 32) (o : Fin 40) :
    (V m c main_call0_v45 : FVec Ideal S32x40 .f32) (ix2 j o) = (args m c).Wc2 (ix2 o j) := by
  unfold V
  after_reads_at
  rfl

theorem host_bc2 (o : Fin 40) : (V m c main_call0_v47 : FVec Ideal S1x40 .f32) (ix2 0 o) = (args m c).bc2 (ix1 o) := by
  unfold V
  after_reads_at
  rfl

end Cert.Proof.KernelHost

end
-- ==== Proof.KernelBlock.lean ====
/-
  What the kernel computes on one block of eighty nodes: each stage of the block's value, read at an index, is the
  model's stage at that node.
-/
module

public import proofs.«01_k».proof.Proof.Model
public import proofs.«01_k».proof.Proof.Gen.KernelIdeal.Frame

@[expose] public section

set_option maxRecDepth 16384

noncomputable section

namespace Cert.Proof.KernelBlock

open Cert.KernelIdeal Cert.KernelIdeal.Gen Idealize.ShloMosaic
open Cert.Proof.Scalars Cert.Proof.Model

/-- The block's stacked rows, aggregated and projected: row `m` of node `n`. -/
theorem proj_apply (u : Vec Ideal S80x17x128 .f32) (w : Vec Ideal S128x16 .f32) (n : Fin 80) (m : Fin 17) (k : Fin 16) :
    k0_pay3 u w (ix4 n m 0 k)
      = Kernel.proj (fun m g => u (ix3 n m g)) (fun g k => w (ix2 g k)) m k := by
  pointwise [k0_pay3, Ideal.absf_def]
  rfl

/-- The channel scale, spread over the block. -/
theorem scale_apply (a : Vec Ideal S1x4 .f32) (n : Fin 80) (m : Fin 17) (c : Fin 4) (k : Fin 16) :
    k0_pay4 a (ix4 n m c k) = a (ix2 0 c) := by
  pointwise [k0_pay4]

/-- The second layer's normalized value from the first layer's projections. -/
theorem pre2_apply (d : FVec Ideal S4x16 .f32) (t : FVec Ideal S80x17x1x16 .f32) (a : FVec Ideal S80x17x4x16 .f32)
    (wt2 : Vec Ideal S16x1 .f32) (w2 : Vec Ideal S4x32 .f32) (b2 : Vec Ideal S1x32 .f32) (a' : Fin 4 → EReal) (n : Fin 80)
    (ha : ∀ m c k, a (ix4 n m c k) = a' c) (z : Fin 32) :
    k0_pay5 d t a wt2 w2 b2 (ix2 n z)
      = Kernel.pre2 (fun g => wt2 (ix2 g 0)) (fun c z => w2 (ix2 c z)) (fun z => b2 (ix2 0 z))
          (Kernel.act a' (fun c k => d (ix2 c k)) fun m k => t (ix4 n m 0 k)) z := by
  pointwise [k0_pay5, Ideal.absf_def]
  simp only [ha]
  rfl

/-- The additive term is taken as it stands. -/
theorem shift_apply (d : Vec Ideal S4x16 .f32) (c : Fin 4) (k : Fin 16) : k0_pay2 d (ix2 c k) = d (ix2 c k) := by
  pointwise [k0_pay2]

/-- The classifier on the second layer's values. -/
theorem classify_apply (p q r : FVec Ideal S80x32 .f32) (wc1 : Vec Ideal S32x32 .f32) (bc1 : Vec Ideal S1x32 .f32)
    (wc2 : Vec Ideal S32x40 .f32) (bc2 : Vec Ideal S1x40 .f32) (n : Fin 80) (o : Fin 40)
    (hq : q = absf p) (hr : r = k0_pay7 (F := Ideal)) :
    k0_pay1 p q r wc1 bc1 wc2 bc2 (ix2 n o)
      = classify (fun z => p (ix2 n z)) (fun z j => wc1 (ix2 z j)) (fun j => bc1 (ix2 0 j)) (fun j o => wc2 (ix2 j o))
          (fun o => bc2 (ix2 0 o)) o := by
  subst hq hr
  pointwise [k0_pay1, k0_pay7, Ideal.absf_def]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The block the body stores, read at node `n` and class `o`: the network's kernel evaluation at that node. -/
theorem out_apply (x0 : Vec Ideal S80x17x128 .f32) (x1 : Vec Ideal S128x16 .f32) (x2 : Vec Ideal S1x4 .f32)
    (x3 : Vec Ideal S4x16 .f32) (x4 : Vec Ideal S16x1 .f32) (x5 : Vec Ideal S4x32 .f32) (x6 : Vec Ideal S1x32 .f32)
    (x7 : Vec Ideal S32x32 .f32) (x8 : Vec Ideal S1x32 .f32) (x9 : Vec Ideal S32x40 .f32) (x10 : Vec Ideal S1x40 .f32)
    (n : Fin 80) (o : Fin 40) :
    out0_11 x0 x1 x2 x3 x4 x5 x6 x7 x8 x9 x10 (ix2 n o)
      = classify
          (Kernel.pre2 (fun g => x4 (ix2 g 0)) (fun c z => x5 (ix2 c z)) (fun z => x6 (ix2 0 z))
            (Kernel.act (fun c => x2 (ix2 0 c)) (fun c k => x3 (ix2 c k))
              (Kernel.proj (fun m g => x0 (ix3 n m g)) fun g k => x1 (ix2 g k))))
          (fun z j => x7 (ix2 z j)) (fun j => x8 (ix2 0 j)) (fun j o => x9 (ix2 j o)) (fun o => x10 (ix2 0 o)) o := by
  unfold_out out0_11
  rw [View.canon_unit_zero hz2]
  rw [show View.ld x0 r0_0 = x0 from View.ld_unit_zero hz3 _ _, show View.ld x1 r0_1 = x1 from View.ld_unit_zero hz2 _ _,
    show View.ld x2 r0_2 = x2 from View.ld_unit_zero hz2 _ _, show View.ld x3 r0_3 = x3 from View.ld_unit_zero hz2 _ _,
    show View.ld x4 r0_4 = x4 from View.ld_unit_zero hz2 _ _, show View.ld x5 r0_5 = x5 from View.ld_unit_zero hz2 _ _,
    show View.ld x6 r0_6 = x6 from View.ld_unit_zero hz2 _ _, show View.ld x7 r0_7 = x7 from View.ld_unit_zero hz2 _ _,
    show View.ld x8 r0_6 = x8 from View.ld_unit_zero hz2 _ _, show View.ld x9 r0_8 = x9 from View.ld_unit_zero hz2 _ _,
    show View.ld x10 r0_9 = x10 from View.ld_unit_zero hz2 _ _]
  refine (classify_apply _ _ _ _ _ _ _ n o rfl rfl).trans ?_
  congr 1
  funext z
  rw [pre2_apply _ _ _ _ _ _ (fun c => x2 (ix2 0 c)) n (fun m c k => scale_apply _ n m c k)]
  simp only [proj_apply, shift_apply]

end Cert.Proof.KernelBlock

end
-- ==== Proof.KernelValue.lean ====
/-
  The kernel's run: what each window's block holds, what each grid point writes back, and the result array.
-/
module

public import proofs.«01_k».proof.Proof.KernelHost
public import proofs.«01_k».proof.Proof.KernelBlock
public import proofs.«01_k».proof.Proof.Gen.KernelIdeal.Value
public import Idealize.ShloMosaic.Lib.Pipeline.ValueKit

@[expose] public section

set_option maxRecDepth 16384

noncomputable section

namespace Cert.Proof.KernelValue

open Cert.KernelIdeal Cert.KernelIdeal.Gen Idealize.ShloMosaic Idealize.ShloMosaic.TcCoe Idealize.ShloMosaic.StableHlo
open Idealize.SL.Sem
open Cert.Proof.Scalars Cert.Proof.Model Cert.Proof.Precondition Cert.Proof.KernelHost

variable (m : (ℓ : Loc nD τ sig) → Buf (Elt Ideal) ℓ) (c : Dev nD)

/-! ## The windows' blocks -/

/-- Where each window's block lies at point `t`: the stacked rows and the result move with the point, the parameters
    stay. -/
theorem index_eq : ∀ t : Fin cfg0.N, win0_0.index t = ![t.val, 0, 0] ∧ win0_11.index t = ![t.val, 0]
    ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

/-- The node of the whole array that is node `n` of block `t`. -/
def node (t : Fin cfg0.N) (n : Fin 80) : Fin 10000 :=
  ⟨t.val * 80 + n.val, by have : t.val < 125 := t.isLt; omega⟩

theorem iblk_rows (t : Fin cfg0.N) (n : Fin 80) (r : Fin 17) (g : Fin 128) :
    (iblk m c 0 t : FVec Ideal S80x17x128 .f32) (ix3 n r g)
      = ((args m c).net (node t n)).row r g := by
  refine Eq.trans ?_ (host_rows m c (node t n) r g)
  blk_ext [iblk, node, (index_eq t).1]

/-! Each parameter's window holds the whole of its array at every point, and the host has put there what `KernelHost`
says. -/

theorem iblk_Wt1 (t : Fin cfg0.N) (g : Fin 128) (k : Fin 16) :
    (iblk m c 1 t : FVec Ideal S128x16 .f32) (ix2 g k)
      = (args m c).Wt1 (ix2 k g) := by
  refine Eq.trans ?_ (host_Wt1 m c g k)
  blk_ext [iblk, (index_eq t).2.2.1]

theorem iblk_scale1 (t : Fin cfg0.N) (k : Fin 4) :
    (iblk m c 2 t : FVec Ideal S1x4 .f32) (ix2 0 k)
      = Ideal.div ((args m c).g1 (ix1 k)) std * (args m c).W1 (ix2 k 0) := by
  refine Eq.trans ?_ (host_scale1 m c k)
  blk_ext [iblk, (index_eq t).2.2.2.1]

theorem iblk_shift1 (t : Fin cfg0.N) (k : Fin 4) (l : Fin 16) :
    (iblk m c 3 t : FVec Ideal S4x16 .f32) (ix2 k l)
      = Ideal.div ((args m c).g1 (ix1 k)) std
          * ((args m c).b1 (ix1 k) * ∑ g, (args m c).Wt1 (ix2 l g) + (args m c).bt1 (ix1 l)) + (args m c).be1 (ix1 k) := by
  refine Eq.trans ?_ (host_shift1 m c k l)
  blk_ext [iblk, (index_eq t).2.2.2.2.1]

theorem iblk_Wt2 (t : Fin cfg0.N) (g : Fin 16) :
    (iblk m c 4 t : FVec Ideal S16x1 .f32) (ix2 g 0)
      = (args m c).Wt2 (ix2 0 g) := by
  refine Eq.trans ?_ (host_Wt2 m c g)
  blk_ext [iblk, (index_eq t).2.2.2.2.2.1]

theorem iblk_scale2 (t : Fin cfg0.N) (k : Fin 4) (z : Fin 32) :
    (iblk m c 5 t : FVec Ideal S4x32 .f32) (ix2 k z)
      = Ideal.div ((args m c).g2 (ix1 z)) std * (args m c).W2 (ix2 z k) := by
  refine Eq.trans ?_ (host_scale2 m c k z)
  blk_ext [iblk, (index_eq t).2.2.2.2.2.2.1]

theorem iblk_shift2 (t : Fin cfg0.N) (z : Fin 32) :
    (iblk m c 6 t : FVec Ideal S1x32 .f32) (ix2 0 z)
      = Ideal.div ((args m c).g2 (ix1 z)) std
          * ((args m c).b2 (ix1 z) * ∑ g, (args m c).Wt2 (ix2 0 g) + (args m c).bt2 (ix1 0)) + (args m c).be2 (ix1 z) := by
  refine Eq.trans ?_ (host_shift2 m c z)
  blk_ext [iblk, (index_eq t).2.2.2.2.2.2.2.1]

theorem iblk_Wc1 (t : Fin cfg0.N) (z j : Fin 32) :
    (iblk m c 7 t : FVec Ideal S32x32 .f32) (ix2 z j)
      = (args m c).Wc1 (ix2 j z) := by
  refine Eq.trans ?_ (host_Wc1 m c z j)
  blk_ext [iblk, (index_eq t).2.2.2.2.2.2.2.2.1]

theorem iblk_bc1 (t : Fin cfg0.N) (j : Fin 32) :
    (iblk m c 8 t : FVec Ideal S1x32 .f32) (ix2 0 j)
      = (args m c).bc1 (ix1 j) := by
  refine Eq.trans ?_ (host_bc1 m c j)
  blk_ext [iblk, (index_eq t).2.2.2.2.2.2.2.2.2.1]

theorem iblk_Wc2 (t : Fin cfg0.N) (j : Fin 32) (o : Fin 40) :
    (iblk m c 9 t : FVec Ideal S32x40 .f32) (ix2 j o)
      = (args m c).Wc2 (ix2 o j) := by
  refine Eq.trans ?_ (host_Wc2 m c j o)
  blk_ext [iblk, (index_eq t).2.2.2.2.2.2.2.2.2.2.1]

theorem iblk_bc2 (t : Fin cfg0.N) (o : Fin 40) :
    (iblk m c 10 t : FVec Ideal S1x40 .f32) (ix2 0 o)
      = (args m c).bc2 (ix1 o) := by
  refine Eq.trans ?_ (host_bc2 m c o)
  blk_ext [iblk, (index_eq t).2.2.2.2.2.2.2.2.2.2.2]

/-- What the body leaves at node `n` of block `t`: that node's class scores. -/
theorem block_apply (hF : (args m c).Finite) (t : Fin cfg0.N) (n : Fin 80) (o : Fin 40) :
    out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 n o) = (args m c).out (node t n) o := by
  refine (KernelBlock.out_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) n o).trans ?_
  simp only [iblk_rows, iblk_Wt1, iblk_scale1, iblk_shift1, iblk_Wt2, iblk_scale2, iblk_shift2, iblk_Wc1, iblk_bc1,
    iblk_Wc2, iblk_bc2]
  rw [Args.out]
  congr 1
  funext z
  rw [← kernel_pre2]
  simp only [← kernel_act1]
  simp only [hF.net_W1, hF.net_b1, hF.net_Wt1, hF.net_g1, hF.net_W2, hF.net_b2, hF.net_Wt2, hF.net_g2]
  rfl

/-- The result array after the run. -/
theorem final (hF : (args m c).Finite) : (dats m 0 c).arrAt 11 cfg0.N = (args m c).result := by
  refine (dats m 0 c).arrAt_eq_of_covers 11 _ (by decide +kernel) fun t hf y => ?_
  blk_simp
  rw [after0_11]
  obtain ⟨n, o, rfl⟩ : ∃ (n : Fin 80) (o : Fin 40), y = ix2 n o := ⟨y 0, y 1, eq_ix2 y⟩
  refine (block_apply m c hF t n o).trans ?_
  show (args m c).result (ix2 (node t n) o) = _
  blk_ext [node, (index_eq t).2.1]

/-- The kernel ends with every node's class scores in its result. -/
theorem run (ρ : Dev nD → PrngReg) (hF : ∀ c, (args m c).Finite) :
    θ_run defs (onTc (τ := τ) (main (F := Ideal))) ⟨m, fun _ => 0, ρ⟩ fun r => ∀ c : Dev nD,
      r.2.mem ((c.tc : Thread nD τ).loc main_v0) = (args m c).result :=
  (θ_run defs _ _).mono (fun _ h c => (h c).1.trans (final m c (hF c))) (Value.run_blocks m ρ)

end Cert.Proof.KernelValue

end
-- ==== Proof.ReferenceValue.lean ====
/-
  What the reference computes: each named stage of its result, read at an index, is the model's stage.
-/
module

public import proofs.«01_k».proof.Proof.Precondition
public import proofs.«01_k».proof.Proof.Gen.ReferenceIdeal.Run

@[expose] public section

set_option maxRecDepth 16384

noncomputable section

namespace Cert.Proof.ReferenceValue

open Cert.ReferenceIdeal Cert.ReferenceIdeal.Gen Cert.ReferenceIdeal.Value Idealize.ShloMosaic Idealize.ShloMosaic.StableHlo
open Cert.Proof.Scalars Cert.Proof.Model Cert.Proof.Precondition

/-- A device's buffers hold the arguments `A`. -/
structure Reads (V : Valuation τ sig (Elt Ideal)) (A : Args) : Prop where
  x : V (Proc.tc.devRef main_arg0) = A.x
  nb : V (Proc.tc.devRef main_arg1) = A.nb
  W1 : V (Proc.tc.devRef main_arg2) = A.W1
  b1 : V (Proc.tc.devRef main_arg3) = A.b1
  Wt1 : V (Proc.tc.devRef main_arg4) = A.Wt1
  bt1 : V (Proc.tc.devRef main_arg5) = A.bt1
  g1 : V (Proc.tc.devRef main_arg6) = A.g1
  be1 : V (Proc.tc.devRef main_arg7) = A.be1
  W2 : V (Proc.tc.devRef main_arg8) = A.W2
  b2 : V (Proc.tc.devRef main_arg9) = A.b2
  Wt2 : V (Proc.tc.devRef main_arg10) = A.Wt2
  bt2 : V (Proc.tc.devRef main_arg11) = A.bt2
  g2 : V (Proc.tc.devRef main_arg12) = A.g2
  be2 : V (Proc.tc.devRef main_arg13) = A.be2
  Wc1 : V (Proc.tc.devRef main_arg14) = A.Wc1
  bc1 : V (Proc.tc.devRef main_arg15) = A.bc1
  Wc2 : V (Proc.tc.devRef main_arg16) = A.Wc2
  bc2 : V (Proc.tc.devRef main_arg17) = A.bc2

variable (V : Valuation τ sig (Elt Ideal)) (A : Args)

/-- The neighbours' features, with the unit batch axis dropped. -/
theorem neighbour_apply (hR : Reads V A) (i : Fin 10000) (m : Fin 16) (g : Fin 128) :
    (res_main_v0 V : FVec Ideal S10000x16x1x128 .f32) (ix4 i m 0 g) = A.nb (ix5 i 0 m 0 g) := by
  pointwise [res_main_v0]
  rw [hR.nb]

/-- The first layer's raw adjacency. -/
theorem raw1_apply (hR : Reads V A) (i : Fin 10000) (f g : Fin 128) :
    (res_main_v4 V : FVec Ideal S10000x128x128 .f32) (ix3 i f g) = (A.net i).raw1 f g := by
  pointwise [res_main_v4, res_main_v2]
  simp only [neighbour_apply V A hR, hR.x]
  simp only [Fin.sum_univ_one]
  rfl

/-- Its column-normalized signed root. -/
theorem adj1_apply (hR : Reads V A) (i : Fin 10000) (f g : Fin 128) :
    (res_main_v17 V : FVec Ideal S10000x128x128 .f32) (ix3 i f g) = adj (A.net i).raw1 f g := by
  pointwise [res_main_v17, res_main_v15, res_main_v8]
  simp only [raw1_apply V A hR]
  simp only [ne_eq, not_true_eq_false, if_false]
  rfl

/-- The first layer's normalized value at the node itself. -/
theorem self1_apply (hR : Reads V A) (hF : A.Finite) (i : Fin 10000) (c : Fin 4) (k : Fin 16) :
    (res_main_v49 V : FVec Ideal S10000x4x16 .f32) (ix3 i c k) = (A.net i).pre1 (A.net i).x c k := by
  rw [Net.pre1, affineFirst]
  pointwise [res_main_v49]
  simp only [adj1_apply V A hR, hR.x, hR.W1, hR.b1, hR.Wt1, hR.bt1, hR.g1, hR.be1, Fin.sum_univ_one]
  simp only [hF.net_W1, hF.net_b1, hF.net_Wt1, hF.net_g1]
  rfl

/-- The same at a neighbour. -/
theorem neighbour1_apply (hR : Reads V A) (hF : A.Finite) (i : Fin 10000) (m : Fin 16) (c : Fin 4) (k : Fin 16) :
    (res_main_v63 V : FVec Ideal S10000x16x4x16 .f32) (ix4 i m c k) = (A.net i).pre1 ((A.net i).nb m) c k := by
  rw [Net.pre1, affineFirst]
  pointwise [res_main_v63]
  simp only [adj1_apply V A hR, hR.W1, hR.b1, hR.Wt1, hR.bt1, hR.g1, hR.be1, Fin.sum_univ_one, neighbour_apply V A hR]
  simp only [hF.net_W1, hF.net_b1, hF.net_Wt1, hF.net_g1]
  rfl

/-- The first layer's activation at the node itself. -/
theorem act1_apply (hR : Reads V A) (hF : A.Finite) (i : Fin 10000) (c : Fin 4) (k : Fin 16) :
    (res_main_v53 V : FVec Ideal S10000x4x16 .f32) (ix3 i c k) = (((A.net i).act1 (A.net i).x c k : ℝ) : EReal) := by
  rw [← Net.softsign_pre1]
  pointwise [res_main_v53]
  simp only [self1_apply V A hR hF]
  rfl

/-- The second layer's raw adjacency. -/
theorem raw2_apply (hR : Reads V A) (hF : A.Finite) (i : Fin 10000) (f g : Fin 16) :
    (res_main_v71 V : FVec Ideal S10000x16x16 .f32) (ix3 i f g) = (((A.net i).raw2 f g : ℝ) : EReal) := by
  pointwise [res_main_v71, res_main_v69]
  simp only [act1_apply V A hR hF, neighbour1_apply V A hR hF]
  simp only [Net.raw2, ← coe_sum, EReal.coe_add, EReal.coe_mul, ← Net.softsign_pre1]
  rfl

/-- Its column-normalized signed root. -/
theorem adj2_apply (hR : Reads V A) (hF : A.Finite) (i : Fin 10000) (f g : Fin 16) :
    (res_main_v82 V : FVec Ideal S10000x16x16 .f32) (ix3 i f g)
      = adj (fun f g => (((A.net i).raw2 f g : ℝ) : EReal)) f g := by
  pointwise [res_main_v82, res_main_v75]
  simp only [raw2_apply V A hR hF]
  rfl

/-- The second layer's normalized value. -/
theorem pre2_apply (hR : Reads V A) (hF : A.Finite) (i : Fin 10000) (z : Fin 32) :
    (res_main_v105 V : FVec Ideal S10000x32x1 .f32) (ix3 i z 0) = (A.net i).pre2 z := by
  rw [← reference_pre2]
  pointwise [res_main_v105]
  simp only [adj2_apply V A hR hF, act1_apply V A hR hF, hR.W2, hR.b2, hR.Wt2, hR.bt2, hR.g2, hR.be2]
  simp only [hF.net_W2, hF.net_b2, hF.net_Wt2, hF.net_g2]
  simp only [ne_eq, not_true_eq_false, if_false]
  rfl

open Idealize.SL.Sem in
/-- The reference ends with every node's class scores in its result and every argument as it was. -/
theorem run (m : (ℓ : Loc nD τ sig) → Buf (Elt Ideal) ℓ) (ρ : Dev nD → PrngReg) (A : Dev nD → Args)
    (hR : ∀ c, Reads (launchContents m c) (A c)) (hF : ∀ c, (A c).Finite) :
    θ_run defs (onTc (τ := τ) (main (F := Ideal))) ⟨m, fun _ => 0, ρ⟩ fun r => ∀ c : Dev nD,
      r.2.mem ((c.tc : Thread nD τ).loc main_v122) = (A c).result := by
  refine (θ_run defs _ _).mono (fun r h c => (h c).1.trans ?_) (Value.run (F := Ideal) m ρ)
  funext j
  obtain ⟨i, o, rfl⟩ : ∃ (i : Fin 10000) (o : Fin 40), j = ix2 i o := ⟨j 0, j 1, eq_ix2 j⟩
  generalize hV : launchContents m c = V
  have hR := hV ▸ hR c
  have hp (i : Fin 10000) (z : Fin 32) := pre2_apply V (A c) hR (hF c) i z
  show _ = (A c).out i o
  pointwise []
  simp only [hp, hR.Wc1, hR.bc1, hR.Wc2, hR.bc2]
  rfl

end Cert.Proof.ReferenceValue

end
-- ==== Proof.lean ====
/-
  The proof of `Cert.Claim`: the three programs run and leave their arguments and semaphores as they were, and at the
  ideal instance the kernel and the reference end with the same class scores for every node.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The witnesses of the facts the programs and the precondition state. -/
local instance : Cert.KernelIdeal.Facts := Cert.KernelIdeal.Gen.facts
local instance : Cert.ReferenceIdeal.Facts := Cert.ReferenceIdeal.Gen.facts
local instance : Cert.Pre_finite.Facts := Precondition.facts

/-- The reference leaves its arguments unchanged and, as it has no semaphores, every counter zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the parameters of the two layers' products are finite, whatever the features, the shifts and the classifier hold,
    the kernel and the reference both end with the class scores `Args.result` of their arguments. -/
theorem algebraic : Cert.algebraic_KernelIdeal_ReferenceIdeal_pre_finite := by
  intro m ρ m' ρ' hpre hagree
  have hF (c : Dev Cert.KernelIdeal.nD) : (KernelHost.args m c).Finite := Precondition.Args.finite_of_fn _ (hpre c)
  have hR (c : Dev Cert.KernelIdeal.nD) :
      ReferenceValue.Reads (Idealize.ShloMosaic.StableHlo.launchContents m' c) (KernelHost.args m c) := by
    obtain ⟨h0, h1, h2, h3, h4, h5, h6, h7, h8, h9, h10, h11, h12, h13, h14, h15, h16, h17⟩ := hagree c
    exact ⟨h0, h1, h2, h3, h4, h5, h6, h7, h8, h9, h10, h11, h12, h13, h14, h15, h16, h17⟩
  exact ⟨fun c => (KernelHost.args m c).result,
    θ_run_mono (θ_run_and (KernelValue.run m ρ hF) (Cert.KernelIdeal.Value.run_blocks m ρ))
      fun _ h c => ⟨h.1 c, (h.2 c).2⟩,
    θ_run_mono (θ_run_and (ReferenceValue.run m' ρ' (fun c => KernelHost.args m c) hR hF)
      (Cert.ReferenceIdeal.Value.run m' ρ')) fun _ h c => ⟨h.1 c, (h.2 c).2⟩⟩

/-- The certificate's claim. -/
theorem claim : Cert.Claim :=
  ⟨Cert.Kernel.Gen.facts, Cert.KernelIdeal.Gen.facts, Cert.ReferenceIdeal.Gen.facts, Precondition.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    algebraic⟩

end Cert.Proof

end
